-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_points_away_from_centroid [hPre_unit_points_away_from_centroid : Cert.Pre_unit_points_away_from_centroid.Facts] (m : (ℓ : Loc Cert.KernelIdeal.nD Cert.KernelIdeal.τ Cert.KernelIdeal.sig) → Buf (Elt Ideal) ℓ) : Prop :=
  ∀ c : Dev Cert.KernelIdeal.nD,
    (Cert.Pre_unit_points_away_from_centroid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_unit_points_away_from_centroid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_unit_points_away_from_centroid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_unit_points_away_from_centroid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_points_away_from_centroid [hPre_unit_points_away_from_centroid : Cert.Pre_unit_points_away_from_centroid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_points_away_from_centroid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_unit_points_away_from_centroid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_unit_points_away_from_centroid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_unit_points_away_from_centroid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unit_points_away_from_centroid [hKernelIdeal : Cert.KernelIdeal.Facts] [hPre_unit_points_away_from_centroid : Cert.Pre_unit_points_away_from_centroid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_points_away_from_centroid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unit_points_away_from_centroid [hReferenceIdeal : Cert.ReferenceIdeal.Facts] [hPre_unit_points_away_from_centroid : Cert.Pre_unit_points_away_from_centroid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_points_away_from_centroid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unit_points_away_from_centroid [hKernelIdeal : Cert.KernelIdeal.Facts] [hReferenceIdeal : Cert.ReferenceIdeal.Facts] [hPre_unit_points_away_from_centroid : Cert.Pre_unit_points_away_from_centroid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_points_away_from_centroid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unit_points_away_from_centroid : Cert.Pre_unit_points_away_from_centroid.Facts),
    quiescent_Kernel (hKernel := hKernel)
    ∧ quiescent_KernelIdeal (hKernelIdeal := hKernelIdeal)
    ∧ quiescent_KernelIdeal_pre_unit_points_away_from_centroid (hKernelIdeal := hKernelIdeal) (hPre_unit_points_away_from_centroid := hPre_unit_points_away_from_centroid)
    ∧ quiescent_ReferenceIdeal (hReferenceIdeal := hReferenceIdeal)
    ∧ quiescent_ReferenceIdeal_pre_unit_points_away_from_centroid (hReferenceIdeal := hReferenceIdeal) (hPre_unit_points_away_from_centroid := hPre_unit_points_away_from_centroid)
    ∧ preserves_Kernel_KernelIdeal
    ∧ algebraic_KernelIdeal_ReferenceIdeal_pre_unit_points_away_from_centroid (hKernelIdeal := hKernelIdeal) (hReferenceIdeal := hReferenceIdeal) (hPre_unit_points_away_from_centroid := hPre_unit_points_away_from_centroid)
-- ==== Pre_unit_points_away_from_centroid.lean ====
abbrev S64x64x64x128 : Shape := ⟨4, ![64, 64, 64, 128]⟩
abbrev S128 : Shape := ⟨1, ![128]⟩
abbrev S1 : Shape := ⟨1, ![1]⟩
abbrev S64x4096x128 : Shape := ⟨3, ![64, 4096, 128]⟩
abbrev S_ : Shape := ⟨0, ![]⟩
abbrev S64x4096 : Shape := ⟨2, ![64, 4096]⟩
abbrev S64x4096x1 : Shape := ⟨3, ![64, 4096, 1]⟩
abbrev S64x128 : Shape := ⟨2, ![64, 128]⟩
abbrev S64x1x128 : Shape := ⟨3, ![64, 1, 128]⟩
abbrev S64x1 : Shape := ⟨2, ![64, 1]⟩
abbrev S64x1x1 : Shape := ⟨3, ![64, 1, 1]⟩

class Facts : Prop where
  shapeCasts_S64x64x64x128_S64x4096x128 : S64x64x64x128.ShapeCasts S64x4096x128
  reducesTo_S64x4096x128_S64x4096_d2 : S64x4096x128.ReducesTo [2] S64x4096
  h_S_ : 0 < S_.numel
  bcast_S64x4096_S64x4096x1_0_1 : S64x4096.BroadcastsInDim S64x4096x1 (![0, 1] : Fin 2 → Fin S64x4096x1.rank)
  slices_S64x4096x128_S64x4096x1_0_0_0 : S64x4096x128.Slices ![0, 0, 0] S64x4096x1
  bcast_S_S64x4096x1 : S_.BroadcastsInDim S64x4096x1 (![] : Fin 0 → Fin S64x4096x1.rank)
  reducesTo_S64x4096x128_S64x128_d1 : S64x4096x128.ReducesTo [1] S64x128
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  reducesTo_S64x1x128_S64x1_d2 : S64x1x128.ReducesTo [2] S64x1
  bcast_S64x1_S64x1x1_0_1 : S64x1.BroadcastsInDim S64x1x1 (![0, 1] : Fin 2 → Fin S64x1x1.rank)
  slices_S64x1x128_S64x1x1_0_0_0 : S64x1x128.Slices ![0, 0, 0] S64x1x1
  bcast_S_S64x1x1 : S_.BroadcastsInDim S64x1x1 (![] : Fin 0 → Fin S64x1x1.rank)
  bcast_S64x1x1_S64x1x128_0_1_2 : S64x1x1.BroadcastsInDim S64x1x128 (![0, 1, 2] : Fin 3 → Fin S64x1x128.rank)
  bcast_S64x1x128_S64x4096x128_0_1_2 : S64x1x128.BroadcastsInDim S64x4096x128 (![0, 1, 2] : Fin 3 → Fin S64x4096x128.rank)
  bcast_S64x1x1_S64x4096x1_0_1_2 : S64x1x1.BroadcastsInDim S64x4096x1 (![0, 1, 2] : Fin 3 → Fin S64x4096x1.rank)
  bcast_S_S128 : S_.BroadcastsInDim S128 (![] : Fin 0 → Fin S128.rank)
  bcast_S_S1 : S_.BroadcastsInDim S1 (![] : Fin 0 → Fin S1.rank)

variable [Facts]

def fn_part2 {F : FTy → Type} [FloatOps F] (main_arg1 : FVec F S128 .f32) (main_arg2 : FVec F S1 .f32) (main_v11 : IVec S64x4096x1 1) (main_v34 : FVec F S64x4096x1 .f32) (main_v38 : FVec F S64x4096x1 .f32) : IVec S64x4096x1 1 × IVec S64x4096x1 1 × IVec S128 1 × IVec S1 1 :=
  let main_cst_8 : FVec F S_ .f32 := constant S_ .f32 0x40000000#32
  let main_v39 : FVec F S64x4096x1 .f32 := broadcastInDim S64x4096x1 ![] bcast_S_S64x4096x1 main_cst_8
  let main_v40 : FVec F S64x4096x1 .f32 := mulf main_v39 main_v38
  let main_v41 : FVec F S64x4096x1 .f32 := subf main_v34 main_v40
  let main_v42 : FVec F S64x4096x1 .f32 := Host.negf main_v41
  let main_cst_9 : FVec F S_ .f32 := constant S_ .f32 0x3F800001#32
  let main_v43 : FVec F S64x4096x1 .f32 := broadcastInDim S64x4096x1 ![] bcast_S_S64x4096x1 main_cst_9
  let main_v44 : IVec S64x4096x1 1 := cmpf .oge main_v42 main_v43
  let main_v45 : IVec S128 32 := iotaInDim S128 32 0
  let main_c : IVec S_ 32 := constantI S_ 32 0#32
  let main_v46 : IVec S128 32 := broadcastInDim S128 ![] bcast_S_S128 main_c
  let main_v47 : IVec S128 1 := cmpi .eq main_v45 main_v46
  let main_cst_10 : FVec F S_ .f32 := constant S_ .f32 0x3F800000#32
  let main_v48 : FVec F S128 .f32 := broadcastInDim S128 ![] bcast_S_S128 main_cst_10
  let main_cst_11 : FVec F S_ .f32 := constant S_ .f32 0x00000000#32
  let main_v49 : FVec F S128 .f32 := broadcastInDim S128 ![] bcast_S_S128 main_cst_11
  let main_v50 : FVec F S128 .f32 := select main_v47 main_v48 main_v49
  let main_v51 : IVec S128 1 := cmpf .oeq main_arg1 main_v50
  let main_v52 : FVec F S1 .f32 := Host.absf main_arg2
  let main_cst_12 : FVec F S_ .f32 := constant S_ .f32 0x7F800000#32
  let main_v53 : FVec F S1 .f32 := broadcastInDim S1 ![] bcast_S_S1 main_cst_12
  let main_v54 : IVec S1 1 := cmpf .olt main_v52 main_v53
  (main_v11, main_v44, main_v51, main_v54)

def fn_part1 {F : FTy → Type} [FloatOps F] (main_arg1 : FVec F S128 .f32) (main_arg2 : FVec F S1 .f32) (main_v0 : FVec F S64x4096x128 .f32) (main_v11 : IVec S64x4096x1 1) (main_v15 : FVec F S64x1x128 .f32) (main_v17 : FVec F S64x1 .f32) : IVec S64x4096x1 1 × IVec S64x4096x1 1 × IVec S128 1 × IVec S1 1 :=
  let main_v18 : FVec F S64x1x1 .f32 := broadcastInDim S64x1x1 ![0, 1] bcast_S64x1_S64x1x1_0_1 main_v17
  let main_v19 : FVec F S64x1x1 .f32 := (extractStridedSlice S64x1x1 ![0, 0, 0] · slices_S64x1x128_S64x1x1_0_0_0) main_v15
  let main_v20 : FVec F S64x1x1 .f32 := (extractStridedSlice S64x1x1 ![0, 0, 0] · slices_S64x1x128_S64x1x1_0_0_0) main_v15
  let main_v21 : FVec F S64x1x1 .f32 := mulf main_v19 main_v20
  let main_cst_5 : FVec F S_ .f32 := constant S_ .f32 0x40000000#32
  let main_v22 : FVec F S64x1x1 .f32 := broadcastInDim S64x1x1 ![] bcast_S_S64x1x1 main_cst_5
  let main_v23 : FVec F S64x1x1 .f32 := mulf main_v22 main_v21
  let main_v24 : FVec F S64x1x1 .f32 := subf main_v18 main_v23
  let main_v25 : FVec F S64x1x1 .f32 := Host.negf main_v24
  let main_cst_6 : FVec F S_ .f32 := constant S_ .f32 0x322BCC77#32
  let main_v26 : FVec F S64x1x1 .f32 := broadcastInDim S64x1x1 ![] bcast_S_S64x1x1 main_cst_6
  let main_v27 : FVec F S64x1x1 .f32 := maximumf main_v25 main_v26
  let main_v28 : FVec F S64x1x1 .f32 := Host.sqrt main_v27
  let main_v29 : FVec F S64x1x128 .f32 := broadcastInDim S64x1x128 ![0, 1, 2] bcast_S64x1x1_S64x1x128_0_1_2 main_v28
  let main_v30 : FVec F S64x1x128 .f32 := Host.divf main_v15 main_v29
  let main_v31 : FVec F S64x4096x128 .f32 := broadcastInDim S64x4096x128 ![0, 1, 2] bcast_S64x1x128_S64x4096x128_0_1_2 main_v30
  let main_v32 : FVec F S64x4096x128 .f32 := mulf main_v31 main_v0
  let main_cst_7 : FVec F S_ .f32 := constant S_ .f32 0x00000000#32
  let main_v33 : FVec F S64x4096 .f32 := (fun x v => Host.reduceAdd x v reducesTo_S64x4096x128_S64x4096_d2 h_S_) main_v32 main_cst_7
  let main_v34 : FVec F S64x4096x1 .f32 := broadcastInDim S64x4096x1 ![0, 1] bcast_S64x4096_S64x4096x1_0_1 main_v33
  let main_v35 : FVec F S64x1x1 .f32 := (extractStridedSlice S64x1x1 ![0, 0, 0] · slices_S64x1x128_S64x1x1_0_0_0) main_v30
  let main_v36 : FVec F S64x4096x1 .f32 := (extractStridedSlice S64x4096x1 ![0, 0, 0] · slices_S64x4096x128_S64x4096x1_0_0_0) main_v0
  let main_v37 : FVec F S64x4096x1 .f32 := broadcastInDim S64x4096x1 ![0, 1, 2] bcast_S64x1x1_S64x4096x1_0_1_2 main_v35
  let main_v38 : FVec F S64x4096x1 .f32 := mulf main_v37 main_v36
  fn_part2 (F := F) main_arg1 main_arg2 main_v11 main_v34 main_v38

def fn {F : FTy → Type} [FloatOps F] (main_arg0 : FVec F S64x64x64x128 .f32) (main_arg1 : FVec F S128 .f32) (main_arg2 : FVec F S1 .f32) : IVec S64x4096x1 1 × IVec S64x4096x1 1 × IVec S128 1 × IVec S1 1 :=
  let main_v0 : FVec F S64x4096x128 .f32 := shapeCast S64x4096x128 main_arg0 shapeCasts_S64x64x64x128_S64x4096x128
  let main_v1 : FVec F S64x4096x128 .f32 := mulf main_v0 main_v0
  let main_cst : FVec F S_ .f32 := constant S_ .f32 0x00000000#32
  let main_v2 : FVec F S64x4096 .f32 := (fun x v => Host.reduceAdd x v reducesTo_S64x4096x128_S64x4096_d2 h_S_) main_v1 main_cst
  let main_v3 : FVec F S64x4096x1 .f32 := broadcastInDim S64x4096x1 ![0, 1] bcast_S64x4096_S64x4096x1_0_1 main_v2
  let main_v4 : FVec F S64x4096x1 .f32 := (extractStridedSlice S64x4096x1 ![0, 0, 0] · slices_S64x4096x128_S64x4096x1_0_0_0) main_v0
  let main_v5 : FVec F S64x4096x1 .f32 := (extractStridedSlice S64x4096x1 ![0, 0, 0] · slices_S64x4096x128_S64x4096x1_0_0_0) main_v0
  let main_v6 : FVec F S64x4096x1 .f32 := mulf main_v4 main_v5
  let main_cst_0 : FVec F S_ .f32 := constant S_ .f32 0x40000000#32
  let main_v7 : FVec F S64x4096x1 .f32 := broadcastInDim S64x4096x1 ![] bcast_S_S64x4096x1 main_cst_0
  let main_v8 : FVec F S64x4096x1 .f32 := mulf main_v7 main_v6
  let main_v9 : FVec F S64x4096x1 .f32 := subf main_v3 main_v8
  let main_cst_1 : FVec F S_ .f32 := constant S_ .f32 0xBF800000#32
  let main_v10 : FVec F S64x4096x1 .f32 := broadcastInDim S64x4096x1 ![] bcast_S_S64x4096x1 main_cst_1
  let main_v11 : IVec S64x4096x1 1 := cmpf .oeq main_v9 main_v10
  let main_cst_2 : FVec F S_ .f32 := constant S_ .f32 0x00000000#32
  let main_v12 : FVec F S64x128 .f32 := (fun x v => Host.reduceAdd x v reducesTo_S64x4096x128_S64x128_d1 h_S_) main_v0 main_cst_2
  let main_v13 : FVec F S64x1x128 .f32 := broadcastInDim S64x1x128 ![0, 2] bcast_S64x128_S64x1x128_0_2 main_v12
  let main_cst_3 : FVec F S_ .f32 := constant S_ .f32 0x45800000#32
  let main_v14 : FVec F S64x1x128 .f32 := broadcastInDim S64x1x128 ![] bcast_S_S64x1x128 main_cst_3
  let main_v15 : FVec F S64x1x128 .f32 := Host.divf main_v13 main_v14
  let main_v16 : FVec F S64x1x128 .f32 := mulf main_v15 main_v15
  let main_cst_4 : FVec F S_ .f32 := constant S_ .f32 0x00000000#32
  let main_v17 : FVec F S64x1 .f32 := (fun x v => Host.reduceAdd x v reducesTo_S64x1x128_S64x1_d2 h_S_) main_v16 main_cst_4
  fn_part1 (F := F) main_arg1 main_arg2 main_v0 main_v11 main_v15 main_v17
-- ==== Kernel.lean ====
abbrev S64x64x64x128 : Shape := ⟨4, ![64, 64, 64, 128]⟩
abbrev S128 : Shape := ⟨1, ![128]⟩
abbrev S1 : Shape := ⟨1, ![1]⟩
abbrev S64x4096x128 : Shape := ⟨3, ![64, 4096, 128]⟩
abbrev S1x128 : Shape := ⟨2, ![1, 128]⟩
abbrev S1x1 : Shape := ⟨2, ![1, 1]⟩
abbrev S2x4096x128 : Shape := ⟨3, ![2, 4096, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x64x64x128, .f32⟩
  | .hbm, ⟨1, _⟩ => ⟨S128, .f32⟩
  | .hbm, ⟨2, _⟩ => ⟨S1, .f32⟩
  | .hbm, ⟨3, _⟩ => ⟨S64x4096x128, .f32⟩
  | .hbm, ⟨4, _⟩ => ⟨S1x128, .f32⟩
  | .hbm, ⟨5, _⟩ => ⟨S1x1, .f32⟩
  | .hbm, ⟨6, _⟩ => ⟨S64x4096x128, .f32⟩
  | .hbm, ⟨7, _⟩ => ⟨S64x64x64x128, .f32⟩
  | .local _ .vmem, ⟨0, _⟩ => ⟨S2x4096x128, .f32⟩
  | .local _ .vmem, ⟨1, _⟩ => ⟨S2x4096x128, .f32⟩
  | .local _ .vmem, ⟨2, _⟩ => ⟨S1x128, .f32⟩
  | .local _ .vmem, ⟨3, _⟩ => ⟨S1x1, .f32⟩
  | .local _ .vmem, ⟨4, _⟩ => ⟨S2x4096x128, .f32⟩
  | .local _ .vmem, ⟨5, _⟩ => ⟨S2x4096x128, .f32⟩
  | _, _ => ⟨S64x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x64x64x128 : Shape := ⟨4, ![64, 64, 64, 128]⟩
abbrev S128 : Shape := ⟨1, ![128]⟩
abbrev S1 : Shape := ⟨1, ![1]⟩
abbrev S64x4096x128 : Shape := ⟨3, ![64, 4096, 128]⟩
abbrev S_ : Shape := ⟨0, ![]⟩
abbrev S64x128 : Shape := ⟨2, ![64, 128]⟩
abbrev S64x1x128 : Shape := ⟨3, ![64, 1, 128]⟩
abbrev S64x1 : Shape := ⟨2, ![64, 1]⟩
abbrev S64x1x1 : Shape := ⟨3, ![64, 1, 1]⟩
abbrev S64x4096 : Shape := ⟨2, ![64, 4096]⟩
abbrev S64x4096x1 : Shape := ⟨3, ![64, 4096, 1]⟩
abbrev S1x1x128 : Shape := ⟨3, ![1, 1, 128]⟩
abbrev S64 : Shape := ⟨1, ![64]⟩
abbrev S1x1x1 : Shape := ⟨3, ![1, 1, 1]⟩

abbrev nBuf : Space → Nat
  | .hbm => 166
  | .vmem => 0
  | .smem => 0
  | _ => 0

abbrev hbmTy0_0 (i : Nat) : BufTy := match i % 128 with
  | 0 => ⟨S64x64x64x128, .f32⟩
  | 1 => ⟨S128, .f32⟩
  | 2 => ⟨S1, .f32⟩
  | 3 => ⟨S64x4096x128, .f32⟩
  | 4 => ⟨S_, .f32⟩
  | 5 => ⟨S128, .f32⟩
  | 6 => ⟨S_, .i32⟩
  | 7 => ⟨S1, .i32⟩
  | 8 => ⟨S_, .f32⟩
  | 9 => ⟨S128, .f32⟩
  | 10 => ⟨S_, .f32⟩
  | 11 => ⟨S64x128, .f32⟩
  | 12 => ⟨S64x1x128, .f32⟩
  | 13 => ⟨S_, .f32⟩
  | 14 => ⟨S64x1x128, .f32⟩
  | 15 => ⟨S64x1x128, .f32⟩
  | 16 => ⟨S64x1x128, .f32⟩
  | 17 => ⟨S_, .f32⟩
  | 18 => ⟨S64x1, .f32⟩
  | 19 => ⟨S64x1x1, .f32⟩
  | 20 => ⟨S64x1x1, .f32⟩
  | 21 => ⟨S64x1x1, .f32⟩
  | 22 => ⟨S64x1x1, .f32⟩
  | 23 => ⟨S_, .f32⟩
  | 24 => ⟨S64x1x1, .f32⟩
  | 25 => ⟨S64x1x1, .f32⟩
  | 26 => ⟨S64x1x1, .f32⟩
  | 27 => ⟨S64x1x1, .f32⟩
  | 28 => ⟨S_, .f32⟩
  | 29 => ⟨S_, .f32⟩
  | 30 => ⟨S64x1x1, .f32⟩
  | 31 => ⟨S64x1x1, .f32⟩
  | 32 => ⟨S64x1x1, .f32⟩
  | 33 => ⟨S64x1x128, .f32⟩
  | 34 => ⟨S64x1x128, .f32⟩
  | 35 => ⟨S64x4096x128, .f32⟩
  | 36 => ⟨S64x4096x128, .f32⟩
  | 37 => ⟨S_, .f32⟩
  | 38 => ⟨S64x4096, .f32⟩
  | 39 => ⟨S64x4096x1, .f32⟩
  | 40 => ⟨S64x1x1, .f32⟩
  | 41 => ⟨S64x4096x1, .f32⟩
  | 42 => ⟨S64x4096x1, .f32⟩
  | 43 => ⟨S64x4096x1, .f32⟩
  | 44 => ⟨S_, .f32⟩
  | 45 => ⟨S64x4096x1, .f32⟩
  | 46 => ⟨S64x4096x1, .f32⟩
  | 47 => ⟨S64x4096x1, .f32⟩
  | 48 => ⟨S64x4096x1, .f32⟩
  | 49 => ⟨S_, .f32⟩
  | 50 => ⟨S_, .f32⟩
  | 51 => ⟨S64x4096x1, .f32⟩
  | 52 => ⟨S64x4096x1, .f32⟩
  | 53 => ⟨S64x4096x128, .f32⟩
  | 54 => ⟨S64x4096x128, .f32⟩
  | 55 => ⟨S64x4096x128, .f32⟩
  | 56 => ⟨S64x4096x128, .f32⟩
  | 57 => ⟨S64x4096x128, .f32⟩
  | 58 => ⟨S_, .f32⟩
  | 59 => ⟨S64x4096, .f32⟩
  | 60 => ⟨S64x4096x1, .f32⟩
  | 61 => ⟨S64x4096x1, .f32⟩
  | 62 => ⟨S64x4096x1, .f32⟩
  | 63 => ⟨S64x4096x1, .f32⟩
  | 64 => ⟨S_, .f32⟩
  | 65 => ⟨S64x4096x1, .f32⟩
  | 66 => ⟨S64x4096x1, .f32⟩
  | 67 => ⟨S64x4096x1, .f32⟩
  | 68 => ⟨S_, .f32⟩
  | 69 => ⟨S_, .f32⟩
  | 70 => ⟨S64x4096x1, .f32⟩
  | 71 => ⟨S64x4096x1, .f32⟩
  | 72 => ⟨S64x4096x1, .f32⟩
  | 73 => ⟨S64x4096x1, .f32⟩
  | 74 => ⟨S64x4096x128, .f32⟩
  | 75 => ⟨S64x4096x128, .f32⟩
  | 76 => ⟨S64x4096x128, .f32⟩
  | 77 => ⟨S64x4096x128, .f32⟩
  | 78 => ⟨S64x4096x1, .f32⟩
  | 79 => ⟨S64x1x1, .f32⟩
  | 80 => ⟨S_, .f32⟩
  | 81 => ⟨S64x1x1, .f32⟩
  | 82 => ⟨S64x1x1, .f32⟩
  | 83 => ⟨S64x4096x1, .f32⟩
  | 84 => ⟨S64x4096x1, .f32⟩
  | 85 => ⟨S1x1x128, .f32⟩
  | 86 => ⟨S64x1x128, .f32⟩
  | 87 => ⟨S64x1x128, .f32⟩
  | 88 => ⟨S64x4096x128, .f32⟩
  | 89 => ⟨S64x4096x128, .f32⟩
  | 90 => ⟨S64x4096x128, .f32⟩
  | 91 => ⟨S64x4096x128, .f32⟩
  | 92 => ⟨S64x4096x128, .f32⟩
  | 93 => ⟨S_, .f32⟩
  | 94 => ⟨S64x4096, .f32⟩
  | 95 => ⟨S64x4096, .f32⟩
  | 96 => ⟨S_, .f32⟩
  | 97 => ⟨S64, .f32⟩
  | 98 => ⟨S64x1, .f32⟩
  | 99 => ⟨S_, .f32⟩
  | 100 => ⟨S64x1, .f32⟩
  | 101 => ⟨S64x1, .f32⟩
  | 102 => ⟨S64x1x1, .f32⟩
  | 103 => ⟨S_, .f32⟩
  | 104 => ⟨S64x1x1, .f32⟩
  | 105 => ⟨S64x1x1, .f32⟩
  | 106 => ⟨S1x1x1, .f32⟩
  | 107 => ⟨S64x1x1, .f32⟩
  | 108 => ⟨S64x1x1, .f32⟩
  | 109 => ⟨S64x4096x128, .f32⟩
  | 110 => ⟨S64x4096x128, .f32⟩
  | 111 => ⟨S1x1x128, .f32⟩
  | 112 => ⟨S64x4096x128, .f32⟩
  | 113 => ⟨S64x4096x128, .f32⟩
  | 114 => ⟨S_, .f32⟩
  | 115 => ⟨S64x4096, .f32⟩
  | 116 => ⟨S64x4096x1, .f32⟩
  | 117 => ⟨S1, .f32⟩
  | 118 => ⟨S64x4096x1, .f32⟩
  | 119 => ⟨S1x1x1, .f32⟩
  | 120 => ⟨S64x4096x1, .f32⟩
  | 121 => ⟨S64x4096x1, .f32⟩
  | 122 => ⟨S_, .f32⟩
  | 123 => ⟨S64x4096x1, .f32⟩
  | 124 => ⟨S64x4096x1, .f32⟩
  | 125 => ⟨S64x4096x1, .f32⟩
  | 126 => ⟨S1, .f32⟩
  | 127 => ⟨S_, .f32⟩
  | _ => ⟨S64x64x64x128, .f32⟩

abbrev hbmTy0_1 (i : Nat) : BufTy := match i % 128 with
  | 0 => ⟨S_, .f32⟩
  | 1 => ⟨S_, .f32⟩
  | 2 => ⟨S64x4096x1, .f32⟩
  | 3 => ⟨S64x4096x1, .f32⟩
  | 4 => ⟨S128, .f32⟩
  | 5 => ⟨S1x1x128, .f32⟩
  | 6 => ⟨S64x4096x128, .f32⟩
  | 7 => ⟨S64x4096x128, .f32⟩
  | 8 => ⟨S64x4096x128, .f32⟩
  | 9 => ⟨S64x4096x128, .f32⟩
  | 10 => ⟨S64x4096x128, .f32⟩
  | 11 => ⟨S_, .f32⟩
  | 12 => ⟨S64x4096, .f32⟩
  | 13 => ⟨S64x4096x1, .f32⟩
  | 14 => ⟨S64x4096x1, .f32⟩
  | 15 => ⟨S64x4096x1, .f32⟩
  | 16 => ⟨S64x4096x1, .f32⟩
  | 17 => ⟨S_, .f32⟩
  | 18 => ⟨S64x4096x1, .f32⟩
  | 19 => ⟨S64x4096x1, .f32⟩
  | 20 => ⟨S64x4096x1, .f32⟩
  | 21 => ⟨S_, .f32⟩
  | 22 => ⟨S_, .f32⟩
  | 23 => ⟨S64x4096x1, .f32⟩
  | 24 => ⟨S64x4096x1, .f32⟩
  | 25 => ⟨S64x4096x1, .f32⟩
  | 26 => ⟨S64x4096x1, .f32⟩
  | 27 => ⟨S1x1x128, .f32⟩
  | 28 => ⟨S64x4096x128, .f32⟩
  | 29 => ⟨S64x4096x128, .f32⟩
  | 30 => ⟨S64x4096x128, .f32⟩
  | 31 => ⟨S64x4096x1, .f32⟩
  | 32 => ⟨S64x4096x128, .f32⟩
  | 33 => ⟨S64x4096x128, .f32⟩
  | 34 => ⟨S64x4096x128, .f32⟩
  | 35 => ⟨S64x4096x128, .f32⟩
  | 36 => ⟨S64x4096x128, .f32⟩
  | 37 => ⟨S64x64x64x128, .f32⟩
  | _ => ⟨S64x64x64x128, .f32⟩

abbrev hbmTy (i : Nat) : BufTy := match i / 128 with
  | 0 => hbmTy0_0 i
  | 1 => hbmTy0_1 i
  | _ => ⟨S64x64x64x128, .f32⟩

abbrev bufTy : (tb : Table) → Fin (tcTables nBuf tb) → BufTy
  | .hbm, ⟨i, _⟩ => hbmTy i
  | _, _ => ⟨S64x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_call2_v0 : Ref sig .tc := ⟨.hbm, 69, rfl⟩
abbrev main_call2_v1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_20 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_21 : Ref sig .tc := ⟨.hbm, 149, rfl⟩
abbrev main_call5_v0 : Ref sig .tc := ⟨.hbm, 150, rfl⟩
abbrev main_call5_v1 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩

abbrev nD : Nat := 1
abbrev τ : Topo := Topo.v7x

variable {F : FTy → Type} [FloatOps F]
-- ==== Proof.BlockModel.lean ====
/- What one grid point of the kernel computes, written once for every chunk: the block holds two images of 4096 rows, read as
   32 chunks of 256 rows (chunk `j` is rows `256 * (j % 16)` onwards of image `j / 16`). Three passes: the mean of each image
   put on the hyperboloid; the tangent vector of every row, left in the output block; the rescaled tangent vector's image
   under the exponential map. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Facts

variable {F : FTy → Type} [FloatOps F]

/-- Chunk `j` lies inside the block of two images. -/
theorem chunk_inb (j : ℕ) : ∀ a, (![j / 16 % 2, 256 * (j % 16), 0] : Fin 3 → ℕ) a + S1x256x128.size a ≤ S2x4096x128.size a := by
  intro a
  fin_cases a
  · show j / 16 % 2 + 1 ≤ 2; omega
  · show 256 * (j % 16) + 256 ≤ 4096; omega
  · show 0 + 128 ≤ 128; omega

/-- The rows of chunk `j` in the block. -/
def chunk (j : ℕ) : Rect S2x4096x128 := Rect.unit ![j / 16 % 2, 256 * (j % 16), 0] S1x256x128.size (chunk_inb j)

/-- Lane zero, as a mask over a row. -/
def lane0 : IVec S1x128 1 := cmpi .eq (iota .tc S1x128 32 [1] iota_S1x128_d1_w32) (broadcast S1x128 0#32)

/-- Lane zero, as a mask over a chunk. -/
def lane0C : IVec S256x128 1 :=
  broadcastTo S256x128 (shapeCast S1x128 lane0 shapeCasts_S1x128_S1x128) broadcasts_S1x128_S256x128

/-- The origin of the hyperboloid, `(1, 0, …, 0)`. -/
def origin : FVec F S1x128 .f32 :=
  select lane0 (broadcast S1x128 (Scalar.ofBits .f32 0x3F800000#32)) (broadcast S1x128 (Scalar.ofBits .f32 0x00000000#32))

/-- The column sums of a chunk. -/
def colSum (x : Vec F S1x256x128 .f32) : FVec F S1x128 .f32 :=
  shapeCast S1x128 (multiReduction .add [0] S128 (shapeCast S256x128 x shapeCasts_S1x256x128_S256x128 : FVec F S256x128 .f32)
    0x00000000#32 reduces_S256x128_S128 (.inl rfl) rfl) shapeCasts_S128_S1x128

/-- The row sums of a chunk. -/
def rowSum (x : FVec F S256x128 .f32) : FVec F S256x1 .f32 :=
  shapeCast S256x1 (multiReduction .add [1] S256 x 0x00000000#32 reduces_S256x128_S256 (.inl rfl) rfl) shapeCasts_S256_S256x1

/-- The sum of a chunk's column of numbers. -/
def total (x : FVec F S256x1 .f32) : FVec F S1x1 .f32 :=
  shapeCast S1x1 (multiReduction .add [0] S1 x 0x00000000#32 reduces_S256x1_S1 (.inl rfl) rfl) shapeCasts_S1_S1x1

/-- The sum of the first `n` of the chunks `16 b, 16 b + 1, …`. -/
def sumTo (X : ℕ → Vec F S1x256x128 .f32) (b : ℕ) : ℕ → FVec F S1x128 .f32
  | 0 => broadcast S1x128 (Scalar.ofBits .f32 0x00000000#32)
  | n + 1 => addf (sumTo X b n) (colSum (X (16 * b + n)))

/-- A vector put on the hyperboloid: divided by the root of minus its Lorentz square. -/
def normalized (m : FVec F S1x128 .f32) : FVec F S1x128 .f32 :=
  mulf m (broadcastTo S1x128 (rsqrt (maximumf (subf (broadcast S1x1 (Scalar.ofBits .f32 0x00000000#32))
    (subf (shapeCast S1x1 (multiReduction .add [1] S1 (mulf m m) 0x00000000#32 reduces_S1x128_S1 (.inl rfl) rfl) shapeCasts_S1_S1x1)
      (mulf (broadcast S1x1 (Scalar.ofBits .f32 0x40000000#32))
        (mulf (extractStridedSlice S1x1 ![0, 0] m slices_S1x128_o0_0_S1x1) (extractStridedSlice S1x1 ![0, 0] m slices_S1x128_o0_0_S1x1)))))
    (broadcast S1x1 (Scalar.ofBits .f32 0x322BCC77#32)))) broadcasts_S1x1_S1x128)

/-- The centroid of image `b`. -/
def centroid (X : ℕ → Vec F S1x256x128 .f32) (b : ℕ) : FVec F S1x128 .f32 :=
  normalized (mulf (sumTo X b 16) (broadcast S1x128 (Scalar.ofBits .f32 0x39800000#32)))

/-- A vector with its lanes beyond zero negated: its product with `x`, summed, is minus the Lorentz product. -/
def flipped (m : FVec F S1x128 .f32) : FVec F S1x128 .f32 :=
  select lane0 m (subf (broadcast S1x128 (Scalar.ofBits .f32 0x00000000#32)) m)

/-- One over one plus lane zero. -/
def invOnePlus (m : FVec F S1x128 .f32) : FVec F S1x1 .f32 :=
  divf (broadcast S1x1 (Scalar.ofBits .f32 0x3F800000#32))
    (addf (broadcast S1x1 (Scalar.ofBits .f32 0x3F800000#32)) (extractStridedSlice S1x1 ![0, 0] m slices_S1x128_o0_0_S1x1))

/-- A chunk without its leading unit axis. -/
def rows (x : Vec F S1x256x128 .f32) : FVec F S256x128 .f32 := shapeCast S256x128 x shapeCasts_S1x256x128_S256x128

/-- `alpha` of each row of a chunk. -/
def alpha (m : FVec F S1x128 .f32) (x : Vec F S1x256x128 .f32) : FVec F S256x1 .f32 :=
  maximumf (rowSum (mulf (rows x) (broadcastTo S256x128 (flipped m) broadcasts_S1x128_S256x128)))
    (broadcast S256x1 (Scalar.ofBits .f32 0x3F800001#32))

/-- `alpha² - 1` of each row. -/
def un2 (m : FVec F S1x128 .f32) (x : Vec F S1x256x128 .f32) : FVec F S256x1 .f32 :=
  subf (mulf (alpha m x) (alpha m x)) (broadcast S256x1 (Scalar.ofBits .f32 0x3F800000#32))

/-- The reciprocal root of `alpha² - 1`. -/
def invUn (m : FVec F S1x128 .f32) (x : Vec F S1x256x128 .f32) : FVec F S256x1 .f32 := rsqrt (un2 m x)

/-- The distance of each row from the centroid. -/
def dist (m : FVec F S1x128 .f32) (x : Vec F S1x256x128 .f32) : FVec F S256x1 .f32 :=
  log (addf (alpha m x) (mulf (un2 m x) (invUn m x)))

/-- Each row's distance divided by the root of `alpha² - 1`. -/
def ratioC (m : FVec F S1x128 .f32) (x : Vec F S1x256x128 .f32) : FVec F S256x1 .f32 := mulf (dist m x) (invUn m x)

/-- The factor of the centroid in each row's transported tangent vector. -/
def ratioG (m : FVec F S1x128 .f32) (x : Vec F S1x256x128 .f32) : FVec F S256x1 .f32 :=
  mulf (ratioC m x) (mulf (addf (alpha m x) (rowSum (mulf (rows x) (broadcastTo S256x128 origin broadcasts_S1x128_S256x128))))
    (broadcastTo S256x1 (invOnePlus m) broadcasts_S1x1_S256x1))

/-- What pass 2 stores for a chunk: its rows' tangent vectors, transported to the origin. -/
def tangent (m : FVec F S1x128 .f32) (x : Vec F S1x256x128 .f32) : FVec F S1x256x128 .f32 :=
  shapeCast S1x256x128 (select lane0C (broadcast S256x128 (Scalar.ofBits .f32 0x00000000#32))
    (subf (mulf (broadcastTo S256x128 (ratioC m x) broadcasts_S256x1_S256x128) (rows x))
      (mulf (broadcastTo S256x128 (ratioG m x) broadcasts_S256x1_S256x128) (broadcastTo S256x128 m broadcasts_S1x128_S256x128))))
    shapeCasts_S256x128_S1x256x128

/-- The sum of the distances over the first `n` of the chunks `16 b, 16 b + 1, …`. -/
def distTo (m : FVec F S1x128 .f32) (X : ℕ → Vec F S1x256x128 .f32) (b : ℕ) : ℕ → FVec F S1x1 .f32
  | 0 => broadcast S1x1 (Scalar.ofBits .f32 0x00000000#32)
  | n + 1 => addf (distTo m X b n) (total (dist m (X (16 * b + n))))

/-- The rescaling factor of image `b`: gamma over the mean distance plus epsilon. -/
def scale (g : Vec F S1x1 .f32) (X : ℕ → Vec F S1x256x128 .f32) (b : ℕ) : FVec F S1x1 .f32 :=
  divf (shapeCast S1x1 g shapeCasts_S1x1_S1x1)
    (addf (mulf (distTo (centroid X b) X b 16) (broadcast S1x1 (Scalar.ofBits .f32 0x39800000#32)))
      (broadcast S1x1 (Scalar.ofBits .f32 0x3727C5AC#32)))

/-- A tangent chunk times the factor. -/
def scaled (s : FVec F S1x1 .f32) (t : Vec F S1x256x128 .f32) : FVec F S256x128 .f32 :=
  mulf (rows t) (broadcastTo S256x128 s broadcasts_S1x1_S256x128)

/-- The clamped square norm of each row. -/
def nu2 (s : FVec F S1x1 .f32) (t : Vec F S1x256x128 .f32) : FVec F S256x1 .f32 :=
  maximumf (rowSum (mulf (scaled s t) (scaled s t))) (broadcast S256x1 (Scalar.ofBits .f32 0x322BCC77#32))

/-- Its reciprocal root. -/
def invNu (s : FVec F S1x1 .f32) (t : Vec F S1x256x128 .f32) : FVec F S256x1 .f32 := rsqrt (nu2 s t)

/-- The exponential of each row's norm. -/
def expNu (s : FVec F S1x1 .f32) (t : Vec F S1x256x128 .f32) : FVec F S256x1 .f32 := exp (mulf (nu2 s t) (invNu s t))

/-- Its reciprocal. -/
def expNegNu (s : FVec F S1x1 .f32) (t : Vec F S1x256x128 .f32) : FVec F S256x1 .f32 :=
  divf (broadcast S256x1 (Scalar.ofBits .f32 0x3F800000#32)) (expNu s t)

/-- The hyperbolic cosine of each row's norm. -/
def coshNu (s : FVec F S1x1 .f32) (t : Vec F S1x256x128 .f32) : FVec F S256x1 .f32 :=
  mulf (broadcast S256x1 (Scalar.ofBits .f32 0x3F000000#32)) (addf (expNu s t) (expNegNu s t))

/-- The hyperbolic sine of each row's norm over the norm. -/
def sinhcNu (s : FVec F S1x1 .f32) (t : Vec F S1x256x128 .f32) : FVec F S256x1 .f32 :=
  mulf (mulf (broadcast S256x1 (Scalar.ofBits .f32 0x3F000000#32)) (subf (expNu s t) (expNegNu s t))) (invNu s t)

/-- What pass 3 stores for a chunk: the points its scaled tangent vectors lead to. -/
def expmap (s : FVec F S1x1 .f32) (t : Vec F S1x256x128 .f32) : FVec F S1x256x128 .f32 :=
  shapeCast S1x256x128 (select lane0C
    (broadcastTo S256x128 (shapeCast S256x1 (coshNu s t) shapeCasts_S256x1_S256x1) broadcasts_S256x1_S256x128)
    (mulf (broadcastTo S256x128 (sinhcNu s t) broadcasts_S256x1_S256x128) (scaled s t)))
    shapeCasts_S256x128_S1x256x128

/-- The stores of the first `n` chunks of pass 2, the last first. -/
def pass2 (X : ℕ → Vec F S1x256x128 .f32) : ℕ → List (View.Piece (Elt F) S2x4096x128 .f32)
  | 0 => []
  | j + 1 => ⟨chunk j, tangent (centroid X (j / 16)) (X j)⟩ :: pass2 X j

/-- The stores of pass 2 and of the first `n` chunks of pass 3, the last first: each chunk of pass 3 reads back what the
    output block holds there. -/
def pass3 (v : View sig .tc .vmem S2x4096x128 .f32) (g : Vec F S1x1 .f32) (X : ℕ → Vec F S1x256x128 .f32) :
    ℕ → List (View.Piece (Elt F) S2x4096x128 .f32)
  | 0 => pass2 X 32
  | j + 1 => ⟨chunk j, expmap (scale g X (j / 16)) (v.readCov (pass3 v g X j) (chunk j).toLoadRect)⟩ :: pass3 v g X j

/-- The stores one grid point makes, as the run finds them, are the model's. -/
theorem stores_eq (c : Dev nD) (i : grid0.Coords) (arg1 : Memref sig .tc .vmem S2x4096x128 .f32) (harg1 : arg1.IsWhole)
    (arg2 : Memref sig .tc .vmem S1x128 .f32) (harg2 : arg2.IsWhole) (arg3 : Memref sig .tc .vmem S1x1 .f32) (harg3 : arg3.IsWhole)
    (arg4 : Memref sig .tc .vmem S2x4096x128 .f32) (harg4 : arg4.IsWhole)
    (x0 : Vec F S2x4096x128 .f32) (x1 : Vec F S1x128 .f32) (x2 : Vec F S1x1 .f32) :
    (kernelRun0_A c i arg1 harg1 arg2 harg2 arg3 harg3 arg4 harg4 x0 x1 x2).1
      = pass3 arg4.view (View.readAt (Elt F) arg3.view (Rect.unit ![0, 0] S1x1.size inb_S1x1_S1x1_0_0).toLoadRect (harg3.unread x2))
          (fun j => View.readAt (Elt F) arg1.view (chunk j).toLoadRect (harg1.unread x0)) 32 := by
  sl_kernel_rfl

end Cert.KernelIdeal.Block
end
-- ==== Proof.BlockValue.lean ====
/- What the block holds after one grid point, chunk by chunk: the three passes' store list read back. -/
module

public import proofs.«01_k».proof.Proof.BlockModel

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Facts

variable {F : FTy → Type} [FloatOps F]

/-- Two different chunks share no row. -/
theorem chunk_disjoint {j k : ℕ} (hj : j < 32) (hk : k < 32) (h : j ≠ k) : Disjoint (chunk j).set (chunk k).set := by
  by_cases hb : j / 16 = k / 16
  · refine Rect.disjoint_of_separated (chunk j) (chunk k) 1 ?_
    have : j % 16 ≠ k % 16 := by omega
    rcases Nat.lt_or_gt_of_ne this with h' | h'
    · left; right; show 256 * (j % 16) + 1 * (256 - 1) < 256 * (k % 16); omega
    · right; right; show 256 * (k % 16) + 1 * (256 - 1) < 256 * (j % 16); omega
  · refine Rect.disjoint_of_separated (chunk j) (chunk k) 0 ?_
    rcases Nat.lt_or_gt_of_ne hb with h' | h'
    · left; right; show j / 16 % 2 + 1 * (1 - 1) < k / 16 % 2; omega
    · right; right; show k / 16 % 2 + 1 * (1 - 1) < j / 16 % 2; omega

/-- A store into another chunk does not change what a chunk reads back. -/
theorem read_skip (v : View sig .tc .vmem S2x4096x128 .f32) {j k : ℕ} (hj : j < 32) (hk : k < 32) (h : j ≠ k)
    (w : (chunk j).shape.Idx → Elt F .f32) (L : List (View.Piece (Elt F) S2x4096x128 .f32)) :
    v.readCov (⟨chunk j, w⟩ :: L) (chunk k).toLoadRect = v.readCov L (chunk k).toLoadRect :=
  View.readCov_cons_of_disjoint v ⟨chunk j, w⟩ L (chunk k).toLoadRect (chunk_disjoint hj hk h)

/-- A store into a chunk is what the chunk reads back. -/
theorem read_same (v : View sig .tc .vmem S2x4096x128 .f32) (k : ℕ)
    (w : (chunk k).shape.Idx → Elt F .f32) (L : List (View.Piece (Elt F) S2x4096x128 .f32)) :
    v.readCov (⟨chunk k, w⟩ :: L) (chunk k).toLoadRect = w :=
  View.readCov_cons_toLoadRect v (chunk k) w L

/-- A store into another chunk does not change what a chunk holds. -/
theorem held_skip {j k : ℕ} (hj : j < 32) (hk : k < 32) (h : j ≠ k)
    (w : (chunk j).shape.Idx → Elt F .f32) (L : List (View.Piece (Elt F) S2x4096x128 .f32)) (x : (chunk k).shape.Idx) :
    View.canon (Val := Elt F) (s := S2x4096x128) (e := .f32) (⟨chunk j, w⟩ :: L) ((chunk k).emb x)
      = View.canon (Val := Elt F) (s := S2x4096x128) (e := .f32) L ((chunk k).emb x) :=
  View.canon_cons_of_not_mem ⟨chunk j, w⟩ L (Finset.disjoint_right.mp (chunk_disjoint hj hk h) ((chunk k).idx_mem x))

/-- After `n` chunks of pass 2, chunk `k < n` reads back its tangent vectors. -/
theorem read_pass2 (v : View sig .tc .vmem S2x4096x128 .f32) (X : ℕ → Vec F S1x256x128 .f32) (n : ℕ) (hn : n ≤ 32) (k : ℕ) (hk : k < n) :
    v.readCov (pass2 X n) (chunk k).toLoadRect = tangent (centroid X (k / 16)) (X k) := by
  induction n with
  | zero => omega
  | succ j ih =>
    by_cases h : k = j
    · subst h
      exact read_same v k (tangent (centroid X (k / 16)) (X k)) (pass2 X k)
    · exact (read_skip v (by omega) (by omega) (Ne.symm h) (tangent (centroid X (j / 16)) (X j)) (pass2 X j)).trans
        (ih (by omega) (by omega))

/-- After `n` chunks of pass 3, chunk `k ≥ n` still reads back its tangent vectors. -/
theorem read_pass3 (v : View sig .tc .vmem S2x4096x128 .f32) (g : Vec F S1x1 .f32) (X : ℕ → Vec F S1x256x128 .f32)
    (n k : ℕ) (hn : n ≤ k) (hk : k < 32) :
    v.readCov (pass3 v g X n) (chunk k).toLoadRect = tangent (centroid X (k / 16)) (X k) := by
  induction n with
  | zero => exact read_pass2 v X 32 le_rfl k hk
  | succ j ih =>
    exact (read_skip v (by omega) hk (by omega) (expmap (scale g X (j / 16)) (v.readCov (pass3 v g X j) (chunk j).toLoadRect))
      (pass3 v g X j)).trans (ih (by omega))

/-- What the block holds at last at row `x 1`, lane `x 2` of chunk `k`. -/
def blockAt (g : Vec F S1x1 .f32) (X : ℕ → Vec F S1x256x128 .f32) (k : ℕ) : FVec F S1x256x128 .f32 :=
  expmap (scale g X (k / 16)) (tangent (centroid X (k / 16)) (X k))

/-- After `n` chunks of pass 3, chunk `k < n` holds its points. -/
theorem held_pass3 (v : View sig .tc .vmem S2x4096x128 .f32) (g : Vec F S1x1 .f32) (X : ℕ → Vec F S1x256x128 .f32)
    (n : ℕ) (hn : n ≤ 32) (k : ℕ) (hk : k < n) (x : (chunk k).shape.Idx) :
    View.canon (Val := Elt F) (s := S2x4096x128) (e := .f32) (pass3 v g X n) ((chunk k).emb x) = blockAt g X k x := by
  induction n with
  | zero => omega
  | succ j ih =>
    by_cases h : k = j
    · subst h
      refine (View.canon_cons_emb (chunk k) (expmap (scale g X (k / 16)) (v.readCov (pass3 v g X k) (chunk k).toLoadRect))
        (pass3 v g X k) x).trans ?_
      have e : expmap (scale g X (k / 16)) (v.readCov (pass3 v g X k) (chunk k).toLoadRect) = blockAt g X k :=
        congrArg (expmap (scale g X (k / 16))) (read_pass3 v g X k k le_rfl (by omega))
      exact congrFun e x
    · exact (held_skip (by omega) (by omega) (Ne.symm h) (expmap (scale g X (j / 16)) (v.readCov (pass3 v g X j) (chunk j).toLoadRect))
        (pass3 v g X j) x).trans (ih (by omega) (by omega))

/-- Chunk `j` of a block. -/
def chunkOf (x : Vec F S2x4096x128 .f32) (j : ℕ) : Vec F S1x256x128 .f32 := fun i => x ((chunk j).emb i)

/-- The one number of a one-number block. -/
def numberOf (x : Vec F S1x1 .f32) : Vec F S1x1 .f32 := fun i => x ((Rect.unit ![0, 0] S1x1.size inb_S1x1_S1x1_0_0).emb i)

variable (m : (ℓ : Loc nD τ sig) → Buf (Elt F) ℓ)

/-- After the body at point `t`, chunk `k` of the output block holds its points. -/
theorem outs_chunk (c : Dev nD) (t : Fin cfg0.N) (k : ℕ) (hk : k < 32) (x : (chunk k).shape.Idx) :
    outsAt0 m c t ((chunk k).emb x) = blockAt (numberOf (iblk m c 2 t)) (chunkOf (iblk m c 0 t)) k x := by
  unfold outsAt0 out0_A_3
  rw [View.read_writes_eq_canon _ _ _ (cover0_A_3 c _ _ _ _ _ _ _ _ _ _ _ _), stores_eq]
  refine (held_pass3 _ _ _ 32 le_rfl k hk x).trans ?_
  have e0 : (fun j => View.readAt (Elt F) (ms0_0 t).view (chunk j).toLoadRect ((hs0_0 t).unread (iblk m c 0 t)))
      = chunkOf (iblk m c 0 t) := by
    funext j i
    rw [View.readAt_eq_ld, (hs0_0 t).read_unread]
    rfl
  have e2 : View.readAt (Elt F) (ms0_2 t).view (Rect.unit ![0, 0] S1x1.size inb_S1x1_S1x1_0_0).toLoadRect ((hs0_2 t).unread (iblk m c 2 t))
      = numberOf (iblk m c 2 t) := by
    funext i
    rw [View.readAt_eq_ld, (hs0_2 t).read_unread]
    rfl
  rw [e0, e2]

end Cert.KernelIdeal.Block
end
-- ==== Proof.Lorentz.lean ====
/- The mathematics of the layer over the real numbers: points on the unit hyperboloid, their centroid, the
   tangent vectors at it carried to the origin, and the points these lead to once rescaled. -/
module

public import Mathlib.Analysis.SpecialFunctions.Arcosh
public import Mathlib.Algebra.BigOperators.Field
public import Mathlib.Algebra.Order.BigOperators.Ring.Finset
public import Mathlib.Tactic.Linarith
public import Mathlib.Tactic.FieldSimp
public import Mathlib.Tactic.Ring
public import Mathlib.Tactic.NormNum

@[expose] public section

noncomputable section

namespace Cert.Lorentz

open Finset

/-- The lower bound on square norms: the single-precision number next to `1e-8`. -/
def clamp : ℝ := 11258999 / 2 ^ 50

/-- The number added to the mean distance: the single-precision number next to `1e-5`. -/
def eps : ℝ := 10995116 / 2 ^ 40

/-- The lower bound on `alpha`: the single-precision number next to `1 + 1e-7`. -/
def least : ℝ := 8388609 / 8388608

/-- The Lorentz product of two vectors. -/
def linner (u v : Fin 128 → ℝ) : ℝ := ∑ l, u l * v l - 2 * (u 0 * v 0)

/-- The product of the vectors' lanes beyond zero. -/
def sp (u v : Fin 128 → ℝ) : ℝ := ∑ l ∈ univ.erase 0, u l * v l

/-- The Lorentz product is the product beyond lane zero minus the product of the lanes zero. -/
theorem linner_eq (u v : Fin 128 → ℝ) : linner u v = sp u v - u 0 * v 0 := by
  unfold linner sp
  rw [← Finset.sum_erase_add univ _ (mem_univ 0)]
  ring

/-- The Lorentz product is additive on the left. -/
theorem linner_add_left (u u' v : Fin 128 → ℝ) : linner (fun l => u l + u' l) v = linner u v + linner u' v := by
  simp only [linner, add_mul, sum_add_distrib]; ring

/-- The Lorentz product takes a factor out on the left. -/
theorem linner_smul_left (k : ℝ) (u v : Fin 128 → ℝ) : linner (fun l => k * u l) v = k * linner u v := by
  simp only [linner, mul_sub, mul_sum, mul_assoc]; ring

/-- The Lorentz product is symmetric. -/
theorem linner_comm (u v : Fin 128 → ℝ) : linner u v = linner v u := by
  simp only [linner, mul_comm]

/-- The Lorentz product is additive on the right. -/
theorem linner_add_right (u v v' : Fin 128 → ℝ) : linner u (fun l => v l + v' l) = linner u v + linner u v' := by
  rw [linner_comm, linner_add_left, linner_comm v, linner_comm v']

/-- The Lorentz product takes a factor out on the right. -/
theorem linner_smul_right (k : ℝ) (u v : Fin 128 → ℝ) : linner u (fun l => k * v l) = k * linner u v := by
  rw [linner_comm, linner_smul_left, linner_comm v]

/-- The origin of the hyperboloid. -/
def e0 (l : Fin 128) : ℝ := if l = 0 then 1 else 0

/-- The Lorentz product with the origin is minus lane zero. -/
theorem linner_e0 (v : Fin 128 → ℝ) : linner e0 v = - v 0 := by
  simp only [linner, e0, ite_mul, one_mul, zero_mul, sum_ite_eq', mem_univ, if_true]; ring

variable (x : ℕ → Fin 128 → ℝ) (g : ℝ)

/-- The mean of the 4096 points. -/
def avg (l : Fin 128) : ℝ := (∑ n ∈ range 4096, x n l) / 4096

/-- The centroid: the mean put on the hyperboloid. -/
def mean (l : Fin 128) : ℝ := avg x l / √(-linner (avg x) (avg x))

/-- Minus the Lorentz product of the centroid with point `n`. -/
def al (n : ℕ) : ℝ := -linner (mean x) (x n)

/-- The distance of point `n` from the centroid. -/
def dist (n : ℕ) : ℝ := Real.arcosh (al x n)

/-- The length a tangent vector gets over the length it has. -/
def ratio (n : ℕ) : ℝ := dist x n / √(al x n ^ 2 - 1)

/-- The tangent vector at the centroid towards point `n`, carried to the origin. -/
def tangent (n : ℕ) (l : Fin 128) : ℝ :=
  if l = 0 then 0 else ratio x n * x n l - ratio x n * ((al x n + x n 0) / (1 + mean x 0)) * mean x l

/-- The rescaling factor. -/
def scale : ℝ := g / ((∑ n ∈ range 4096, dist x n) / 4096 + eps)

/-- The rescaled tangent vector. -/
def vec (n : ℕ) (l : Fin 128) : ℝ := tangent x n l * scale x g

/-- Its length, bounded below. -/
def nu (n : ℕ) : ℝ := √(max (∑ l, vec x g n l * vec x g n l) clamp)

/-- The point the rescaled tangent vector leads to from the origin. -/
def out (n : ℕ) (l : Fin 128) : ℝ :=
  if l = 0 then Real.cosh (nu x g n) else Real.sinh (nu x g n) / nu x g n * vec x g n l

/-- The points are on the unit hyperboloid, and their mean is so far inside it that the bound on its square does not act. -/
structure Good : Prop where
  sheet : ∀ n < 4096, linner (x n) (x n) = -1
  inside : clamp ≤ -linner (avg x) (avg x)

variable {x}

/-- The clamp is positive. -/
theorem clamp_pos : 0 < clamp := by unfold clamp; norm_num
/-- The clamp is at most one. -/
theorem clamp_le_one : clamp ≤ 1 := by unfold clamp; norm_num
/-- Epsilon is positive. -/
theorem eps_pos : 0 < eps := by unfold eps; norm_num
/-- The least alpha is above 1. -/
theorem one_lt_least : 1 < least := by unfold least; norm_num

/-- Where no point is within the bound of the centroid, as the reference computes it, the mean is inside the hyperboloid:
    averaged over the points, the bound says that minus the mean's square is at least the root it is divided by. -/
theorem inside_of_away
    (ha : ∀ n < 4096, least ≤ -linner (fun l => avg x l / √(max (-linner (avg x) (avg x)) clamp)) (x n)) :
    clamp ≤ -linner (avg x) (avg x) := by
  set c := √(max (-linner (avg x) (avg x)) clamp) with hc
  have hcl : √clamp ≤ c := Real.sqrt_le_sqrt (le_max_right _ _)
  have hc1 : clamp ≤ √clamp := Real.le_sqrt_of_sq_le (by nlinarith [clamp_pos, clamp_le_one])
  have hp : 0 < c := clamp_pos.trans_le (hc1.trans hcl)
  have hn : ∀ n ∈ range 4096, c ≤ -linner (avg x) (x n) := by
    intro n hn
    have e : (fun l => avg x l / c) = fun l => c⁻¹ * avg x l := by funext l; rw [div_eq_inv_mul]
    have h := ha n (mem_range.mp hn)
    rw [e, linner_smul_left, ← mul_neg, ← div_eq_inv_mul, le_div_iff₀ hp] at h
    nlinarith [one_lt_least]
  have hs := sum_le_sum hn
  have e : ∑ n ∈ range 4096, -linner (avg x) (x n) = 4096 * -linner (avg x) (avg x) := by
    have h1 : ∑ n ∈ range 4096, ∑ l, avg x l * x n l = 4096 * ∑ l, avg x l * avg x l := by
      rw [sum_comm, mul_sum]
      refine sum_congr rfl fun l _ => ?_
      rw [← mul_sum]
      simp only [avg]
      ring
    have h2 : ∑ n ∈ range 4096, 2 * (avg x 0 * x n 0) = 4096 * (2 * (avg x 0 * avg x 0)) := by
      rw [← mul_sum, ← mul_sum]
      simp only [avg]
      ring
    rw [sum_neg_distrib]
    simp only [linner]
    rw [sum_sub_distrib, h1, h2]
    ring
  rw [e, sum_const, card_range, nsmul_eq_mul] at hs
  push_cast at hs
  linarith

/-- The root the mean is divided by is positive. -/
theorem root_pos (h : Good x) : 0 < √(-linner (avg x) (avg x)) :=
  Real.sqrt_pos.mpr (clamp_pos.trans_le h.inside)

/-- The centroid is on the hyperboloid. -/
theorem mean_sheet (h : Good x) : linner (mean x) (mean x) = -1 := by
  have e : mean x = fun l => (√(-linner (avg x) (avg x)))⁻¹ * avg x l := by
    funext l; rw [mean, div_eq_inv_mul]
  have hp := root_pos h
  have hs : √(-linner (avg x) (avg x)) * √(-linner (avg x) (avg x)) = -linner (avg x) (avg x) :=
    Real.mul_self_sqrt (clamp_pos.le.trans h.inside)
  rw [e, linner_smul_left, linner_smul_right]
  field_simp
  nlinarith

/-- A centroid with `-1` in lane zero is the origin's mirror image. -/
theorem mean_mirror (h : Good x) (h0 : 1 + mean x 0 = 0) (l : Fin 128) : mean x l + e0 l = 0 := by
  have hm : mean x 0 = -1 := by linarith
  unfold e0
  by_cases hl : l = 0
  · rw [hl, if_pos rfl, hm]; norm_num
  · have hs := mean_sheet h
    rw [linner_eq, hm] at hs
    have hz : sp (mean x) (mean x) = 0 := by linarith
    have hl' := (sum_eq_zero_iff_of_nonneg fun l _ => mul_self_nonneg (mean x l)).mp hz l (mem_erase.mpr ⟨hl, mem_univ l⟩)
    rw [if_neg hl, mul_self_eq_zero.mp hl', add_zero]

/-- For such a centroid `alpha` is minus the point's lane zero. -/
theorem al_mirror (h : Good x) (h0 : 1 + mean x 0 = 0) (n : ℕ) : al x n + x n 0 = 0 := by
  have e : mean x = fun l => -1 * e0 l := by
    funext l
    linarith [mean_mirror h h0 l]
  rw [al, e, linner_smul_left, linner_e0]
  ring

/-- The least `alpha` is far enough from one for the bound on square norms not to act. -/
theorem clamp_le {a : ℝ} (h : least ≤ a) : clamp ≤ a ^ 2 - 1 := by
  have h1 : (8388609 / 8388608 : ℝ) ≤ a := h
  unfold clamp
  nlinarith

/-- The square of `u - alpha mean` is `alpha² - 1`. -/
theorem perp_square (h : Good x) {n : ℕ} (hn : n < 4096) :
    linner (fun l => x n l + -al x n * mean x l) (fun l => x n l + -al x n * mean x l) = al x n ^ 2 - 1 := by
  have ha : linner (mean x) (x n) = -al x n := by rw [al, neg_neg]
  have e : linner (fun l => x n l + -al x n * mean x l) (fun l => x n l + -al x n * mean x l)
      = linner (x n) (x n) + 2 * (-al x n) * linner (mean x) (x n) + al x n ^ 2 * linner (mean x) (mean x) := by
    rw [linner_add_left (x n) (fun l => -al x n * mean x l), linner_smul_left,
      linner_add_right (x n) (x n) (fun l => -al x n * mean x l), linner_add_right (mean x) (x n) (fun l => -al x n * mean x l),
      linner_smul_right, linner_smul_right, linner_comm (x n) (mean x)]
    ring
  rw [e, h.sheet n hn, mean_sheet h, ha]; ring

/-- The tangent vector as the reference carries it: at the centroid first, then to the origin. -/
theorem transport (h : Good x) (n : ℕ) (l : Fin 128) :
    ratio x n * (x n l + -al x n * mean x l)
      - ratio x n * (x n 0 + -al x n * mean x 0) / (1 + mean x 0) * (mean x l + e0 l) = tangent x n l := by
  by_cases hp : 1 + mean x 0 = 0
  · have hm : mean x 0 = -1 := by linarith
    have ha := al_mirror h hp n
    have hl := mean_mirror h hp l
    rw [hl, mul_zero, sub_zero, tangent, ha, zero_div, mul_zero, zero_mul, sub_zero]
    by_cases h0 : l = 0
    · subst h0
      have e : x n 0 + -al x n * mean x 0 = 0 := by rw [hm]; linarith
      rw [if_pos rfl, e, mul_zero]
    · rw [e0, if_neg h0, add_zero] at hl
      rw [if_neg h0, hl, mul_zero, add_zero]
  unfold tangent e0
  by_cases hl : l = 0
  · subst hl
    simp only [if_true]
    field_simp
    ring
  · simp only [if_neg hl]
    field_simp
    ring

/-- The transported tangent vector is as long as the distance. -/
theorem tangent_square (h : Good x) {n : ℕ} (hn : n < 4096) (ha : least ≤ al x n) :
    ∑ l, tangent x n l * tangent x n l = dist x n ^ 2 := by
  have hz : tangent x n 0 = 0 := if_pos rfl
  have e : ∑ l, tangent x n l * tangent x n l = linner (tangent x n) (tangent x n) := by
    rw [linner, hz]; ring
  set w : Fin 128 → ℝ := fun l => x n l + -al x n * mean x l with hw
  have ht : tangent x n = fun l => ratio x n * w l + -(ratio x n * w 0 / (1 + mean x 0)) * (mean x l + e0 l) := by
    funext l
    rw [← transport h n l, hw]; ring
  have hwm : linner w (mean x) = 0 := by
    rw [hw, linner_add_left (x n) (fun l => -al x n * mean x l), linner_smul_left, mean_sheet h, linner_comm (x n), al]; ring
  have hwe : linner w e0 = - w 0 := by rw [linner_comm, linner_e0]
  have hww : linner w w = al x n ^ 2 - 1 := perp_square h hn
  have hee : linner e0 e0 = -1 := by rw [linner_e0, e0, if_pos rfl]
  have hem : linner e0 (mean x) = - mean x 0 := linner_e0 _
  have hme : linner (mean x) e0 = - mean x 0 := by rw [linner_comm, linner_e0]
  have hmm := mean_sheet h
  have expand : ∀ a b : ℝ, linner (fun l => a * w l + b * (mean x l + e0 l)) (fun l => a * w l + b * (mean x l + e0 l))
      = a ^ 2 * linner w w + 2 * a * b * (linner w (mean x) + linner w e0)
        + b ^ 2 * (linner (mean x) (mean x) + 2 * linner (mean x) e0 + linner e0 e0) := by
    intro a b
    have s : linner (fun l => a * w l + b * (mean x l + e0 l)) (fun l => a * w l + b * (mean x l + e0 l))
        = a * linner w (fun l => a * w l + b * (mean x l + e0 l))
          + b * (linner (mean x) (fun l => a * w l + b * (mean x l + e0 l)) + linner e0 (fun l => a * w l + b * (mean x l + e0 l))) := by
      rw [linner_add_left (fun l => a * w l) (fun l => b * (mean x l + e0 l)), linner_smul_left,
        linner_smul_left b (fun l => mean x l + e0 l), linner_add_left (mean x) e0]
    have r : ∀ u : Fin 128 → ℝ, linner u (fun l => a * w l + b * (mean x l + e0 l))
        = a * linner u w + b * (linner u (mean x) + linner u e0) := by
      intro u
      rw [linner_add_right u (fun l => a * w l) (fun l => b * (mean x l + e0 l)), linner_smul_right,
        linner_smul_right b u (fun l => mean x l + e0 l), linner_add_right u (mean x) e0]
    rw [s, r, r, r, linner_comm (mean x) w, linner_comm e0 w, linner_comm e0 (mean x)]
    ring
  have hq : 0 < al x n ^ 2 - 1 := lt_of_lt_of_le clamp_pos (clamp_le ha)
  have hr : ratio x n ^ 2 * (al x n ^ 2 - 1) = dist x n ^ 2 := by
    rw [ratio, div_pow, Real.sq_sqrt hq.le]
    field_simp
  rw [e, ht, expand, hww, hwm, hwe, hmm, hme, hee, ← hr]
  by_cases hp : 1 + mean x 0 = 0
  · rw [hp, div_zero]; ring
  · field_simp
    ring

/-- A point's distance to the centroid is not negative. -/
theorem dist_nonneg {n : ℕ} (ha : least ≤ al x n) : 0 ≤ dist x n :=
  Real.arcosh_nonneg (one_lt_least.le.trans ha)

/-- The root of the tangent vector's square is the distance. -/
theorem tangent_norm (h : Good x) {n : ℕ} (hn : n < 4096) (ha : least ≤ al x n) :
    √(∑ l, tangent x n l * tangent x n l) = dist x n := by
  rw [tangent_square h hn ha, Real.sqrt_sq (dist_nonneg ha)]

/-- What the mean distance and the small number add up to is positive. -/
theorem denom_pos (ha : ∀ n < 4096, least ≤ al x n) : 0 < (∑ n ∈ range 4096, dist x n) / 4096 + eps := by
  have h : 0 ≤ ∑ n ∈ range 4096, dist x n := sum_nonneg fun n hn => dist_nonneg (ha n (mem_range.mp hn))
  have := eps_pos
  positivity

/-- The rescaled vector has nothing in lane zero, so its Lorentz square is the sum of its squares. -/
theorem vec_square (n : ℕ) : linner (vec x g n) (vec x g n) = ∑ l, vec x g n l * vec x g n l := by
  have hz : vec x g n 0 = 0 := by rw [vec, tangent, if_pos rfl, zero_mul]
  rw [linner, hz]; ring

/-- The bounded norm is positive. -/
theorem nu_pos (n : ℕ) : 0 < nu x g n := Real.sqrt_pos.mpr (lt_max_of_lt_right clamp_pos)

/-- The reference's last step: the exponential map at the origin. -/
theorem expmap (n : ℕ) (l : Fin 128) :
    Real.cosh (nu x g n) * e0 l + Real.sinh (nu x g n) * vec x g n l / nu x g n = out x g n l := by
  unfold out e0
  by_cases hl : l = 0
  · subst hl
    have hz : vec x g n 0 = 0 := by rw [vec, tangent, if_pos rfl, zero_mul]
    rw [if_pos rfl, if_pos rfl, hz]; ring
  · rw [if_neg hl, if_neg hl]; ring

end Cert.Lorentz

end
-- ==== Proof.Consts.lean ====
/- The single-precision constants of the two programs as real numbers. -/
module

public import Idealize.ShloMosaic.Lib.IdealHost
public import proofs.«01_k».proof.Proof.Lorentz

@[expose] public section

noncomputable section

open Idealize.ShloMosaic

namespace Cert.Consts

/-- The word of 1. -/
theorem one : Ideal.ofBits .f32 0x3F800000#32 = ((1 : ℝ) : EReal) := by
  rw [Ideal.ofBits_one_f32]; rfl

/-- The word of 2. -/
theorem two : Ideal.ofBits .f32 0x40000000#32 = ((2 : ℝ) : EReal) := by
  simp [Ideal.ofBits, Ideal.ieee, -EReal.coe_mul]; norm_num

/-- The word of -1. -/
theorem negOne : Ideal.ofBits .f32 0xBF800000#32 = ((-1 : ℝ) : EReal) := by
  simp [Ideal.ofBits, Ideal.ieee, -EReal.coe_mul]; norm_num

/-- The word of 1/2. -/
theorem half : Ideal.ofBits .f32 0x3F000000#32 = ((1 / 2 : ℝ) : EReal) := by
  simp [Ideal.ofBits, Ideal.ieee, -EReal.coe_mul]; norm_num

/-- The word of 4096, the points of an image. -/
theorem count : Ideal.ofBits .f32 0x45800000#32 = ((4096 : ℝ) : EReal) := by
  simp [Ideal.ofBits, Ideal.ieee, -EReal.coe_mul]; norm_num

/-- The word of 1/4096, which is exact. -/
theorem perCount : Ideal.ofBits .f32 0x39800000#32 = ((1 / 4096 : ℝ) : EReal) := by
  simp [Ideal.ofBits, Ideal.ieee, -EReal.coe_mul]; norm_num

/-- The word of the clamp, the float nearest to 1e-8. -/
theorem clamp : Ideal.ofBits .f32 0x322BCC77#32 = ((Lorentz.clamp : ℝ) : EReal) := by
  simp [Ideal.ofBits, Ideal.ieee, -EReal.coe_mul, Lorentz.clamp]; norm_num

/-- The word of epsilon, the float nearest to 1e-5. -/
theorem eps : Ideal.ofBits .f32 0x3727C5AC#32 = ((Lorentz.eps : ℝ) : EReal) := by
  simp [Ideal.ofBits, Ideal.ieee, -EReal.coe_mul, Lorentz.eps]; norm_num

/-- The word of the least alpha, the float nearest to 1 + 1e-7. -/
theorem least : Ideal.ofBits .f32 0x3F800001#32 = ((Lorentz.least : ℝ) : EReal) := by
  simp [Ideal.ofBits, Ideal.ieee, -EReal.coe_mul, Lorentz.least]; norm_num

/-- The word of infinity. -/
theorem infinity : Ideal.ofBits .f32 0x7F800000#32 = (⊤ : EReal) := by
  simp [Ideal.ofBits, Ideal.ieee]

end Cert.Consts

end
-- ==== Proof.Scalars.lean ====
/- The extended-real operations at real numbers. -/
module

public import Idealize.ShloMosaic.Lib.IdealHost
public import Mathlib.Analysis.SpecialFunctions.Arcosh

@[expose] public section

noncomputable section

open Idealize.ShloMosaic

namespace Cert.Scalars

/-- A sum of real numbers, as extended reals, is the real sum. -/
theorem sum_coe {ι : Type} (s : Finset ι) (f : ι → ℝ) : ∑ k ∈ s, (f k : EReal) = ((∑ k ∈ s, f k : ℝ) : EReal) := by
  induction s using Finset.cons_induction with
  | empty => simp
  | cons a s ha ih => rw [Finset.sum_cons, Finset.sum_cons, ih, EReal.coe_add]

/-- The maximum of two reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Division by a real that is not 0. -/
theorem div_coe {a b : ℝ} (h : b ≠ 0) : Ideal.div (a : EReal) (b : EReal) = ((a / b : ℝ) : EReal) := by
  rw [Ideal.div_coe h, ← EReal.coe_mul, mul_one_div]

/-- The reciprocal root of a positive real. -/
theorem rsqrt_coe {a : ℝ} (h : 0 < a) : Ideal.rsqrt (a : EReal) = (((√a)⁻¹ : ℝ) : EReal) := by
  rw [Ideal.rsqrt_coe, if_neg h.not_gt, if_neg h.ne']

/-- The root of a real that is not negative. -/
theorem sqrt_coe {a : ℝ} (h : 0 ≤ a) : Ideal.sqrt (a : EReal) = ((√a : ℝ) : EReal) := by
  rw [Ideal.sqrt_coe, if_neg h.not_gt]

/-- The logarithm of a positive real. -/
theorem log_coe {a : ℝ} (h : 0 < a) : Ideal.log (a : EReal) = ((Real.log a : ℝ) : EReal) := by
  rw [Ideal.log_coe, if_neg h.not_ge]

/-- The inverse hyperbolic cosine of a real from 1 on. -/
theorem acosh_coe {a : ℝ} (h : 1 ≤ a) : Ideal.acosh (a : EReal) = ((Real.arcosh a : ℝ) : EReal) := by
  rw [Ideal.acosh_coe, if_neg h.not_gt]

/-- A number over its root is the root. -/
theorem mul_inv_sqrt {a : ℝ} (h : 0 < a) : a * (√a)⁻¹ = √a := by
  have hs := Real.sqrt_pos.mpr h
  rw [← div_eq_mul_inv, div_eq_iff hs.ne', Real.mul_self_sqrt h.le]

end Cert.Scalars

end
-- ==== Proof.BlockReal.lean ====
/- What one grid point leaves in its block, at the ideal instance and real inputs: each step of the model is a step of the
   layer over the real numbers. -/
module

public import proofs.«01_k».proof.Proof.BlockValue
public import proofs.«01_k».proof.Proof.Consts
public import proofs.«01_k».proof.Proof.Scalars
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Facts

/-- The mask chooses its first operand in lane zero only. -/
theorem select_lane0 {α : Type} (l : Fin 128) (a b : α) : Scalar.select (lane0 (ix2 0 l)) a b = if l = 0 then a else b := by
  have h : ∀ l : Fin 128, lane0 (ix2 0 l) = if l = 0 then 1#1 else 0#1 := by decide +kernel
  rw [h l]
  split <;> rfl

/-- A select between two real numbers. -/
theorem ite_coe (p : Prop) [Decidable p] (a b : ℝ) : (if p then (a : EReal) else (b : EReal)) = ((if p then a else b : ℝ) : EReal) := by
  split <;> rfl

/-- A chunk's column sum at lane `l` is the sum of that lane over the 256 rows. -/
theorem colSum_at (x : Vec Ideal S1x256x128 .f32) (l : Fin 128) : colSum (F := Ideal) x (ix2 0 l) = ∑ r : Fin 256, x (ix3 0 r l) := by
  pointwise [colSum]

/-- The total of a column of 256 numbers is their sum. -/
theorem total_at (x : FVec Ideal S256x1 .f32) : total (F := Ideal) x (ix2 0 0) = ∑ r : Fin 256, x (ix2 r 0) := by
  pointwise [total]

/-- The kernel's origin is the real vector `(1, 0, …, 0)`. -/
theorem origin_at (l : Fin 128) : origin (F := Ideal) (ix2 0 l) = ((Lorentz.e0 l : ℝ) : EReal) := by
  pointwise [origin]
  rw [select_lane0]
  unfold Lorentz.e0
  split <;> simp

/-- 256 more rows. -/
theorem sum_more (f : ℕ → ℝ) (n : ℕ) :
    ∑ i ∈ Finset.range (256 * n), f i + ∑ r : Fin 256, f (256 * n + r) = ∑ i ∈ Finset.range (256 * (n + 1)), f i := by
  rw [Fin.sum_univ_eq_sum_range (fun i => f (256 * n + i)) 256, mul_add, mul_one, Finset.sum_range_add]

section Row

variable (m : FVec Ideal S1x128 .f32) (u : Fin 128 → ℝ) (hm : ∀ l : Fin 128, m (ix2 0 l) = ((u l : ℝ) : EReal))
  (x : Vec Ideal S1x256x128 .f32) (r : Fin 256) (y : Fin 128 → ℝ) (hx : ∀ l : Fin 128, x (ix3 0 r l) = ((y l : ℝ) : EReal))

include hm in
/-- A vector inside the sheet, put on it. -/
theorem normalized_real (h : Lorentz.clamp ≤ -Lorentz.linner u u) (l : Fin 128) :
    normalized (F := Ideal) m (ix2 0 l) = ((u l / √(-Lorentz.linner u u) : ℝ) : EReal) := by
  pointwise [normalized]
  simp only [hm, Consts.two, Consts.clamp, ← EReal.coe_zero, ← EReal.coe_mul, Scalars.sum_coe, ← EReal.coe_sub, Scalars.max_coe]
  have e : max (0 - (∑ l, u l * u l - 2 * (u 0 * u 0))) Lorentz.clamp = -Lorentz.linner u u := by
    rw [zero_sub, max_eq_left]
    · rfl
    · exact h
  rw [e, Scalars.rsqrt_coe (Lorentz.clamp_pos.trans_le h), ← EReal.coe_mul, ← div_eq_mul_inv]

include hm in
/-- The flipped mean is `u` with every lane but lane 0 negated. -/
theorem flipped_real (l : Fin 128) : flipped (F := Ideal) m (ix2 0 l) = ((if l = 0 then u l else -u l : ℝ) : EReal) := by
  pointwise [flipped]
  rw [select_lane0, hm, zero_sub, ← EReal.coe_neg, ite_coe]

/-- The product with the flipped vector is minus the Lorentz product. -/
theorem flip_sum (u y : Fin 128 → ℝ) : ∑ l, y l * (if l = 0 then u l else -u l) = -Lorentz.linner u y := by
  rw [Lorentz.linner_eq, Lorentz.sp, ← Finset.sum_erase_add _ _ (Finset.mem_univ (0 : Fin 128)), if_pos rfl,
    Finset.sum_congr rfl fun l hl => by rw [if_neg (Finset.ne_of_mem_erase hl), mul_neg, mul_comm (y l)]]
  rw [Finset.sum_neg_distrib]; ring

include hm in
/-- The kernel's reciprocal is `1 / (1 + u₀)`. -/
theorem invOnePlus_real (h : 1 + u 0 ≠ 0) : invOnePlus (F := Ideal) m (ix2 0 0) = ((1 / (1 + u 0) : ℝ) : EReal) := by
  pointwise [invOnePlus]
  rw [hm, ← EReal.coe_one, ← EReal.coe_add, Scalars.div_coe h]

variable (ha : Lorentz.least ≤ -Lorentz.linner u y)

include hm hx ha

/-- The kernel's bounded alpha is `-⟨u, y⟩`, for a row on which the bound does not act. -/
theorem alpha_real : alpha (F := Ideal) m x (ix2 r 0) = ((-Lorentz.linner u y : ℝ) : EReal) := by
  pointwise [alpha, rowSum, rows]
  simp only [hx, flipped_real m u hm, Consts.least, ← EReal.coe_mul, Scalars.sum_coe, Scalars.max_coe]
  rw [flip_sum, max_eq_left ha]

/-- The kernel's squared tangent norm is `α² - 1`. -/
theorem un2_real : un2 (F := Ideal) m x (ix2 r 0) = (((-Lorentz.linner u y) ^ 2 - 1 : ℝ) : EReal) := by
  pointwise [un2]
  rw [alpha_real m u hm x r y hx ha, ← EReal.coe_one, ← EReal.coe_mul, ← EReal.coe_sub, pow_two]

/-- The kernel's reciprocal root is `1 / √(α² - 1)`. -/
theorem invUn_real : invUn (F := Ideal) m x (ix2 r 0) = (((√((-Lorentz.linner u y) ^ 2 - 1))⁻¹ : ℝ) : EReal) := by
  pointwise [invUn]
  rw [un2_real m u hm x r y hx ha, Scalars.rsqrt_coe (lt_of_lt_of_le Lorentz.clamp_pos (Lorentz.clamp_le ha))]

/-- The kernel's logarithm `log (α + √(α² - 1))` is `arcosh α`. -/
theorem dist_real : dist (F := Ideal) m x (ix2 r 0) = ((Real.arcosh (-Lorentz.linner u y) : ℝ) : EReal) := by
  have hq := lt_of_lt_of_le Lorentz.clamp_pos (Lorentz.clamp_le ha)
  have h1 := Lorentz.one_lt_least.trans_le ha
  pointwise [dist]
  rw [alpha_real m u hm x r y hx ha, un2_real m u hm x r y hx ha, invUn_real m u hm x r y hx ha, ← EReal.coe_mul, ← EReal.coe_add,
    Scalars.mul_inv_sqrt hq, Scalars.log_coe (add_pos_of_pos_of_nonneg (by linarith) (Real.sqrt_nonneg _))]
  rfl

/-- The factor of the row itself is `arcosh α / √(α² - 1)`. -/
theorem ratioC_real : ratioC (F := Ideal) m x (ix2 r 0)
    = ((Real.arcosh (-Lorentz.linner u y) / √((-Lorentz.linner u y) ^ 2 - 1) : ℝ) : EReal) := by
  pointwise [ratioC]
  rw [dist_real m u hm x r y hx ha, invUn_real m u hm x r y hx ha, ← EReal.coe_mul, ← div_eq_mul_inv]

/-- The factor of the mean: that ratio times `(α + y₀) / (1 + u₀)`. Where `1 + u₀` is 0 so is `α + y₀`, and the product with the
    reciprocal, which is infinite, is 0. -/
theorem ratioG_real (h : 1 + u 0 = 0 → -Lorentz.linner u y + y 0 = 0) : ratioG (F := Ideal) m x (ix2 r 0)
    = ((Real.arcosh (-Lorentz.linner u y) / √((-Lorentz.linner u y) ^ 2 - 1) * ((-Lorentz.linner u y + y 0) / (1 + u 0)) : ℝ) : EReal) := by
  pointwise [ratioG, rowSum, rows]
  simp only [hx, origin_at, ← EReal.coe_mul, Scalars.sum_coe]
  rw [ratioC_real m u hm x r y hx ha, alpha_real m u hm x r y hx ha, ← EReal.coe_add]
  have e : ∑ l, y l * Lorentz.e0 l = y 0 := by
    simp only [Lorentz.e0, mul_ite, mul_one, mul_zero, Finset.sum_ite_eq', Finset.mem_univ, if_true]
  rw [e]
  by_cases h0 : 1 + u 0 = 0
  · rw [h h0, zero_div, mul_zero, EReal.coe_zero, zero_mul, mul_zero]
  · rw [invOnePlus_real m u hm h0, ← EReal.coe_mul, ← EReal.coe_mul, mul_one_div]

/-- What the second pass stores: 0 in lane 0, and elsewhere the row times its factor less the mean times its factor. -/
theorem tangent_real (h : 1 + u 0 = 0 → -Lorentz.linner u y + y 0 = 0) (l : Fin 128) : tangent (F := Ideal) m x (ix3 0 r l)
    = ((if l = 0 then 0 else Real.arcosh (-Lorentz.linner u y) / √((-Lorentz.linner u y) ^ 2 - 1) * y l
        - Real.arcosh (-Lorentz.linner u y) / √((-Lorentz.linner u y) ^ 2 - 1) * ((-Lorentz.linner u y + y 0) / (1 + u 0)) * u l : ℝ) : EReal) := by
  pointwise [tangent, rows, lane0C]
  rw [select_lane0, ratioC_real m u hm x r y hx ha, ratioG_real m u hm x r y hx ha h, hx, hm, ← EReal.coe_mul, ← EReal.coe_mul,
    ← EReal.coe_sub, ← EReal.coe_zero, ite_coe]

end Row

section Rescaled

variable (s : FVec Ideal S1x1 .f32) (σ : ℝ) (hs : s (ix2 0 0) = ((σ : ℝ) : EReal))
  (t : Vec Ideal S1x256x128 .f32) (r : Fin 256) (w : Fin 128 → ℝ) (ht : ∀ l : Fin 128, t (ix3 0 r l) = ((w l : ℝ) : EReal))

include hs ht

/-- The squared norm of the rescaled tangent vector, bounded below by the clamp. -/
theorem nu2_real : nu2 (F := Ideal) s t (ix2 r 0) = ((max (∑ l, w l * σ * (w l * σ)) Lorentz.clamp : ℝ) : EReal) := by
  pointwise [nu2, rowSum, scaled, rows]
  simp only [hs, ht, Consts.clamp, ← EReal.coe_mul, Scalars.sum_coe, Scalars.max_coe]

/-- What the third pass stores: `cosh ν` in lane 0, `sinh ν / ν` times the rescaled tangent vector elsewhere. -/
theorem expmap_real (l : Fin 128) : expmap (F := Ideal) s t (ix3 0 r l)
    = ((if l = 0 then Real.cosh √(max (∑ l, w l * σ * (w l * σ)) Lorentz.clamp)
        else Real.sinh √(max (∑ l, w l * σ * (w l * σ)) Lorentz.clamp) / √(max (∑ l, w l * σ * (w l * σ)) Lorentz.clamp) * (w l * σ) : ℝ) : EReal) := by
  pointwise [expmap, coshNu, sinhcNu, expNegNu, expNu, lane0C, scaled, invNu, rows]
  rw [select_lane0, nu2_real s σ hs t r w ht, ht, hs]
  set q := max (∑ l, w l * σ * (w l * σ)) Lorentz.clamp with hq
  have hp : 0 < q := lt_max_of_lt_right Lorentz.clamp_pos
  rw [Scalars.rsqrt_coe hp, ← EReal.coe_mul, Scalars.mul_inv_sqrt hp, Ideal.exp_coe, ← EReal.coe_one,
    Scalars.div_coe (Real.exp_pos _).ne', Consts.half, ← EReal.coe_add, ← EReal.coe_sub, ← EReal.coe_mul, ← EReal.coe_mul,
    ← EReal.coe_mul, ← EReal.coe_mul, ← EReal.coe_mul, ite_coe, Real.cosh_eq, Real.sinh_eq, Real.exp_neg]
  congr 1
  split <;> ring

end Rescaled

section Image

variable (X : ℕ → Vec Ideal S1x256x128 .f32) (b : ℕ) (R : ℕ → Fin 128 → ℝ)
  (hX : ∀ k < 16, ∀ (r : Fin 256) (l : Fin 128), X (16 * b + k) (ix3 0 r l) = ((R (256 * k + r) l : ℝ) : EReal))

include hX

/-- After `n` chunks the running sum is the sum of the first `256 * n` rows. -/
theorem sumTo_real (n : ℕ) (hn : n ≤ 16) (l : Fin 128) :
    sumTo (F := Ideal) X b n (ix2 0 l) = ((∑ i ∈ Finset.range (256 * n), R i l : ℝ) : EReal) := by
  induction n with
  | zero => pointwise [sumTo]; simp
  | succ k ih =>
    unfold sumTo
    pointwise
    rw [ih (by omega), colSum_at, Finset.sum_congr rfl fun r _ => hX k (by omega) r l, Scalars.sum_coe, ← EReal.coe_add,
      sum_more (fun i => R i l)]

/-- The centroid of an image. -/
theorem centroid_real (h : Lorentz.Good R) (l : Fin 128) : centroid (F := Ideal) X b (ix2 0 l) = ((Lorentz.mean R l : ℝ) : EReal) := by
  unfold centroid
  refine normalized_real _ (Lorentz.avg R) (fun l => ?_) h.inside l
  pointwise
  rw [sumTo_real X b R hX 16 le_rfl, Consts.perCount, ← EReal.coe_mul, mul_one_div]
  rfl

variable (h : Lorentz.Good R) (ha : ∀ n < 4096, Lorentz.least ≤ Lorentz.al R n)

include h ha

/-- After `n` chunks the running distance is the sum of the first `256 * n` rows' distances. -/
theorem distTo_real (n : ℕ) (hn : n ≤ 16) :
    distTo (F := Ideal) (centroid X b) X b n (ix2 0 0) = ((∑ i ∈ Finset.range (256 * n), Lorentz.dist R i : ℝ) : EReal) := by
  induction n with
  | zero => pointwise [distTo]; simp
  | succ k ih =>
    unfold distTo
    pointwise
    rw [ih (by omega), total_at, Finset.sum_congr rfl fun r _ => dist_real _ (Lorentz.mean R) (centroid_real X b R hX h) _ r
        (R (256 * k + r)) (hX k (by omega) r) (ha _ (by omega)), Scalars.sum_coe, ← EReal.coe_add]
    exact congrArg _ (sum_more (Lorentz.dist R) k)

variable (g : Vec Ideal S1x1 .f32) (γ : ℝ) (hg : g (ix2 0 0) = ((γ : ℝ) : EReal))

include hg

/-- The kernel's scale is gamma over the mean distance plus epsilon. -/
theorem scale_real : scale (F := Ideal) g X b (ix2 0 0) = ((Lorentz.scale R γ : ℝ) : EReal) := by
  pointwise [scale]
  rw [distTo_real X b R hX h ha 16 le_rfl, hg, Consts.perCount, Consts.eps, ← EReal.coe_mul, ← EReal.coe_add, mul_one_div,
    Scalars.div_coe (Lorentz.denom_pos ha).ne']
  rfl

/-- What a grid point leaves at row `r`, lane `l` of chunk `k` of image `b`. -/
theorem blockAt_real (k : ℕ) (hk : k < 16) (r : Fin 256) (l : Fin 128) :
    blockAt (F := Ideal) g X (16 * b + k) (ix3 0 r l) = ((Lorentz.out R γ (256 * k + r) l : ℝ) : EReal) := by
  have e : (16 * b + k) / 16 = b := by omega
  unfold blockAt
  rw [e, expmap_real _ (Lorentz.scale R γ) (scale_real X b R hX h ha g γ hg) _ r (Lorentz.tangent R (256 * k + r)) (fun l => ?_) l]
  · rfl
  · exact tangent_real _ (Lorentz.mean R) (centroid_real X b R hX h) _ r (R (256 * k + r)) (hX k hk r) (ha _ (by omega)) (fun h0 => Lorentz.al_mirror h h0 _) l

end Image

end Cert.KernelIdeal.Block
end
-- ==== Proof.Points.lean ====
/- What the claim's precondition says of the three arguments, and the layer's result over the real numbers. -/
module

public import proofs.«01_k».proof.Proof.Lorentz
public import proofs.«01_k».proof.Proof.Scalars
public import Idealize.ShloMosaic.Lib.Pointwise

@[expose] public section

set_option maxRecDepth 16384

noncomputable section

open Idealize.ShloMosaic

namespace Cert.Points

/-- The shape of the batch of images. -/
abbrev SX : Shape := ⟨4, ![64, 64, 64, 128]⟩

/-- Image `b` as a sequence of points: point `n` is row `n / 64`, column `n % 64`. -/
def pointsOf (x : FVec Ideal SX .f32) (b : Fin 64) (n : ℕ) (l : Fin 128) : ℝ :=
  EReal.toReal (x (ix4 b (⟨n / 64 % 64, Nat.mod_lt _ (by decide)⟩ : Fin 64) (⟨n % 64, Nat.mod_lt _ (by decide)⟩ : Fin 64) l))

/-- The scale as a real number. -/
def scaleOf (g : FVec Ideal ⟨1, ![1]⟩ .f32) : ℝ := EReal.toReal (g (ix1 (0 : Fin 1)))

/-- Real points on the hyperboloid, none within the bound on `alpha` of its image's centroid; beta the origin; gamma real. -/
structure Admissible (x : FVec Ideal SX .f32) (β : FVec Ideal ⟨1, ![128]⟩ .f32) (g : FVec Ideal ⟨1, ![1]⟩ .f32) : Prop where
  real : ∀ (b h w : Fin 64) (l : Fin 128), x (ix4 b h w l) = ((EReal.toReal (x (ix4 b h w l)) : ℝ) : EReal)
  good : ∀ b : Fin 64, Lorentz.Good (pointsOf x b)
  away : ∀ b : Fin 64, ∀ n < 4096, Lorentz.least ≤ Lorentz.al (pointsOf x b) n
  beta : ∀ l : Fin 128, β (ix1 l) = ((Lorentz.e0 l : ℝ) : EReal)
  gamma : g (ix1 (0 : Fin 1)) = ((scaleOf g : ℝ) : EReal)

/-- The layer's result at image `b`, row `h`, column `w`, lane `l`. -/
def result (x : FVec Ideal SX .f32) (g : FVec Ideal ⟨1, ![1]⟩ .f32) (b h w : Fin 64) (l : Fin 128) : EReal :=
  ((Lorentz.out (pointsOf x b) (scaleOf g) (64 * h + w) l : ℝ) : EReal)

/-- The Lorentz product as the programs write it, at real vectors. -/
theorem linner_coe (u v : Fin 128 → ℝ) : ∑ l, ((u l : ℝ) : EReal) * ((v l : ℝ) : EReal) - ((2 : ℝ) : EReal) * (((u 0 : ℝ) : EReal) * ((v 0 : ℝ) : EReal))
    = ((Lorentz.linner u v : ℝ) : EReal) := by
  simp only [← EReal.coe_mul, Scalars.sum_coe, ← EReal.coe_sub]
  rfl

end Cert.Points

end
-- ==== Proof.KernelArray.lean ====
/- What the kernel's result array holds after the run. -/
module

public import proofs.«01_k».proof.Proof.BlockReal
public import proofs.«01_k».proof.Proof.Points
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Facts

variable (m : (ℓ : Loc nD τ sig) → Buf (Elt Ideal) ℓ)

/-- The windows' block indices. -/
theorem idx : ∀ t : Fin cfg0.N, win0_0.index t = ![t.val, 0, 0] ∧ win0_2.index t = ![0, 0] ∧ win0_3.index t = ![t.val, 0, 0] :=
  (by decide +kernel : ∀ t : Fin grid0.N, _)

/-- Where an index of chunk `j` sits in the block. -/
theorem chunk_emb (j : ℕ) (r : Fin 256) (l : Fin 128) (a : Fin 2) (n : Fin 4096) (ha : (a : ℕ) = j / 16 % 2) (hn : (n : ℕ) = 256 * (j % 16) + r) :
    (chunk j).emb (ix3 (0 : Fin 1) r l : S1x256x128.Idx) = (ix3 a n l : S2x4096x128.Idx) := by
  funext d
  apply Fin.ext
  refine (Rect.idx_unit_val _ _ _ _ d).trans ?_
  fin_cases d
  · show j / 16 % 2 + 0 = (a : ℕ); omega
  · show 256 * (j % 16) + (r : ℕ) = (n : ℕ); omega
  · show 0 + (l : ℕ) = (l : ℕ); omega

/-- The region finds the batch with its rows and columns merged. -/
theorem entry_images (c : Dev nD) (b : Fin 64) (n : Fin 4096) (l : Fin 128) : V m c main_v0 (ix3 b n l : S64x4096x128.Idx)
      = m ((c : Thread nD τ).loc main_arg0) (ix4 b (⟨n / 64 % 64, Nat.mod_lt _ (by decide)⟩ : Fin 64) (⟨n % 64, Nat.mod_lt _ (by decide)⟩ : Fin 64) l) := by
  simp only [V, V0, hostOps0, List.flatten_cons, List.flatten_nil, List.append_nil, List.nil_append]
  after_results
  pointwise
  have e : (⟨n / 64, by omega⟩ : Fin 64) = (⟨n / 64 % 64, Nat.mod_lt _ (by decide)⟩ : Fin 64) := Fin.ext (by show (n : ℕ) / 64 = n / 64 % 64; omega)
  exact congrArg (fun h : Fin 64 => m ((c : Thread nD τ).loc main_arg0) (ix4 b h (⟨n % 64, Nat.mod_lt _ (by decide)⟩ : Fin 64) l)) e

/-- It finds the scale with one more unit axis. -/
theorem entry_number (c : Dev nD) : V m c main_v2 (ix2 0 0 : S1x1.Idx) = m ((c : Thread nD τ).loc main_arg2) (ix1 (0 : Fin 1)) := by
  simp only [V, V0, hostOps0, List.flatten_cons, List.flatten_nil, List.append_nil, List.nil_append]
  after_results
  pointwise

/-- The block of images at grid point `t`: image `2 t + a`, point `n`. -/
theorem images (c : Dev nD) (t : Fin cfg0.N) (a : Fin 2) (n : Fin 4096) (l : Fin 128) (b : Fin 64) (hb : (b : ℕ) = 2 * t.val + a) :
    iblk m c 0 t (ix3 a n l : S2x4096x128.Idx) = V m c main_v0 (ix3 b n l : S64x4096x128.Idx) := by
  unfold iblk
  refine congrArg (V m c main_v0) ?_
  blk_ext [idx t]

/-- The scale's block. -/
theorem number (c : Dev nD) (t : Fin cfg0.N) : numberOf (iblk m c 2 t) (ix2 0 0) = V m c main_v2 (ix2 0 0 : S1x1.Idx) := by
  unfold numberOf iblk
  refine congrArg (V m c main_v2) ?_
  blk_ext [idx t]

variable (c : Dev nD)
  (adm : Points.Admissible (m ((c : Thread nD τ).loc main_arg0)) (m ((c : Thread nD τ).loc main_arg1)) (m ((c : Thread nD τ).loc main_arg2)))

/-- The kernel's result before its rows and columns are split again. -/
def merged : FVec Ideal S64x4096x128 .f32 := fun i =>
  ((Lorentz.out (Points.pointsOf (m ((c : Thread nD τ).loc main_arg0)) (i 0)) (Points.scaleOf (m ((c : Thread nD τ).loc main_arg2)))
    (i 1 : Fin 4096).val (i 2) : ℝ) : EReal)

include adm

/-- What the body leaves at image `a`, point `n`, lane `l` of the block at grid point `t`. -/
theorem outs_at (t : Fin cfg0.N) (a : Fin 2) (n : Fin 4096) (l : Fin 128) (b : Fin 64) (hb : (b : ℕ) = 2 * t.val + a) :
    outsAt0 m c t (ix3 a n l : S2x4096x128.Idx) = merged m c (ix3 b n l) := by
  have ha := a.isLt
  have hn := n.isLt
  have hr : (n : ℕ) % 256 < 256 := Nat.mod_lt _ (by decide)
  rw [← chunk_emb (16 * a + n / 256) ⟨n % 256, hr⟩ l a n (by omega) (by show (n : ℕ) = 256 * ((16 * a + n / 256) % 16) + n % 256; omega)]
  refine (outs_chunk m c t _ (by omega) _).trans ?_
  refine (blockAt_real (chunkOf (iblk m c 0 t)) a (Points.pointsOf (m ((c : Thread nD τ).loc main_arg0)) b) (fun k hk r l => ?_)
    (adm.good b) (adm.away b) _ (Points.scaleOf (m ((c : Thread nD τ).loc main_arg2))) ?_ (n / 256) (by omega) ⟨n % 256, hr⟩ l).trans ?_
  · have hr := r.isLt
    show iblk m c 0 t ((chunk (16 * a + k)).emb (ix3 (0 : Fin 1) r l : S1x256x128.Idx)) = _
    rw [chunk_emb (16 * a + k) r l a ⟨256 * k + r, by omega⟩ (by omega) (by show 256 * k + (r : ℕ) = 256 * ((16 * a + k) % 16) + r; omega),
      images m c t a _ l b hb, entry_images]
    exact adm.real b _ _ l
  · rw [number, entry_number]
    exact adm.gamma
  · show ((Lorentz.out _ _ (256 * (n / 256) + n % 256) l : ℝ) : EReal) = ((Lorentz.out _ _ n l : ℝ) : EReal)
    rw [Nat.div_add_mod]
    rfl

/-- The result array when the region ends. -/
theorem final : (dats m 0 c).arrAt 3 (cfgs 0).N = merged m c := by
  refine (dats m 0 c).arrAt_eq_of_covers 3 _ (by decide +kernel) fun t _ y => ?_
  blk_simp
  rw [after0_3]
  idx_vars y
  have ht : t.val < 32 := t.isLt
  refine (outs_at m c adm t y0 y1 y2 ⟨2 * t.val + y0, by omega⟩ rfl).trans (congrArg (merged m c) ?_)
  blk_ext [idx t]

end Cert.KernelIdeal.Block
end
-- ==== Proof.KernelRun.lean ====
/- The kernel's run: the result holds the layer's points, the arguments are unchanged. -/
module

public import proofs.«01_k».proof.Proof.KernelArray

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Facts

variable (m : (ℓ : Loc nD τ sig) → Buf (Elt Ideal) ℓ) (ρ : Dev nD → PrngReg)

/-- After the region the result array's points are split into rows and columns. -/
theorem split (c : Dev nD) : (Pipeline.afterTail₀ cfgs (dats m) 0 (V0 m) [hostOps1] c main_v4 : FVec Ideal S64x64x64x128 .f32)
    = shapeCast S64x64x64x128 ((dats m 0 c).arrAt 3 (cfgs 0).N : FVec Ideal S64x4096x128 .f32) shapeCasts_S64x4096x128_S64x64x64x128 := by
  unfold Pipeline.afterTail₀
  simp only [hostOps1, List.flatten_cons, List.flatten_nil, List.append_nil, List.nil_append]
  after_results
  have e := Pipeline.withArrays_arr spec0 launch0.win.arr_inj c (V0 m c) (fun w => (dats m 0 c).arrAt w (cfgs 0).N) 3
  exact congrArg (fun v : FVec Ideal S64x4096x128 .f32 => shapeCast S64x64x64x128 v shapeCasts_S64x4096x128_S64x64x64x128) e

/-- Splitting the points into rows and columns. -/
theorem split_at (c : Dev nD) (b h w : Fin 64) (l : Fin 128) :
    shapeCast S64x64x64x128 (merged m c) shapeCasts_S64x4096x128_S64x64x64x128 (ix4 b h w l)
      = Points.result (m ((c : Thread nD τ).loc main_arg0)) (m ((c : Thread nD τ).loc main_arg2)) b h w l := by
  pointwise
  have e : (h : ℕ) * 64 + w = 64 * h + w := by omega
  exact congrArg (fun n => ((Lorentz.out (Points.pointsOf (m ((c : Thread nD τ).loc main_arg0)) b)
    (Points.scaleOf (m ((c : Thread nD τ).loc main_arg2))) n l : ℝ) : EReal)) e

variable (adm : ∀ c : Dev nD, Points.Admissible (m ((c : Thread nD τ).loc main_arg0)) (m ((c : Thread nD τ).loc main_arg1))
  (m ((c : Thread nD τ).loc main_arg2)))

include adm

/-- THE RUN: every execution ends with the result at the layer's points and the arguments as they were. -/
theorem run : θ_run defs (onTc (τ := τ) (main (F := Ideal))) ⟨m, fun _ => 0, ρ⟩ (fun r => ∀ c : Dev nD,
      r.2.mem ((c.tc : Thread nD τ).loc main_v4) = (fun i : S64x64x64x128.Idx =>
        Points.result (m ((c : Thread nD τ).loc main_arg0)) (m ((c : Thread nD τ).loc main_arg2)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2 c⟩) (θ_run_and (run_main m ρ) (unchanged m ρ))
  refine ((h.1 c).2 main_v4 (Pipeline.mem_restRefs_of main_v4 (by decide) (by decide))).trans ?_
  refine (split m c).trans ?_
  rw [final m c (adm c)]
  funext i
  rw [eq_ix4 i]
  exact split_at m c (i 0) (i 1) (i 2) (i 3)

end Cert.KernelIdeal.Block
end
-- ==== Proof.ReferenceReal.lean ====
/- The reference at the ideal instance, for admissible arguments: each buffer of the program holds a named step of the layer
   over the real numbers. -/
module

public import proofs.«01_k».proof.Proof.Gen.ReferenceIdeal.Read
public import proofs.«01_k».proof.Proof.Points
public import proofs.«01_k».proof.Proof.Consts
public import proofs.«01_k».proof.Proof.Scalars
public import Idealize.ShloMosaic.Lib.Pointwise
public import Idealize.ShloMosaic.Lib.Routing.OpsOne

@[expose] public section

set_option maxRecDepth 16384

noncomputable section

open Idealize.ShloMosaic Idealize.ShloMosaic.TcCoe

namespace Cert.ReferenceIdeal.Values

open Cert.ReferenceIdeal Cert.ReferenceIdeal.Read Cert.ReferenceIdeal.Facts

/-- The bound of a clip: the constant that the printed call carries. -/
theorem bound (c : BitVec 32) : (id (constant (F := Ideal) S_ .f32 c) ix0 : EReal) = Ideal.ofBits .f32 c := rfl

/-- The reference's origin: a one scattered into zeros. -/
theorem origin (l : Fin 128) : val_main_v3 (F := Ideal) (ix1 l) = ((Lorentz.e0 l : ℝ) : EReal) := by
  have hw : (val_main_v2 (F := Ideal) (ix1 (0 : Fin 1))).toInt = ((0 : Fin 128).val : Int) := by
    pointwise [val_main_v2, val_main_c]
    rfl
  unfold Lorentz.e0 val_main_v3
  by_cases h : l = 0
  · rw [if_pos h]
    refine (Routing.scatter_set_hit _ _ _ _ _ 1 (fun j _ => ?_) ix0 ((Routing.lands_one _ rfl rfl _ 0 hw l).2 h)).trans ?_
    · rw [ValueIdx.eq_ix0 j]; pointwise [val_main_cst_0]
    · rfl
  · rw [if_neg h]
    refine (Routing.scatter_set_miss _ _ _ _ _ fun j hj => h ((Routing.lands_one _ rfl rfl _ 0 hw l).1 (by rw [← ValueIdx.eq_ix0 j]; exact hj))).trans ?_
    pointwise [val_main_v1, val_main_cst]
    rfl

variable (x : FVec Ideal S64x64x64x128 .f32) (β : FVec Ideal S128 .f32) (g : FVec Ideal S1 .f32) (adm : Points.Admissible x β g)

include adm

/-- The points, one row per point. -/
theorem points (b : Fin 64) (n : Fin 4096) (l : Fin 128) : val_main_v0 (F := Ideal) x (ix3 b n l) = ((Points.pointsOf x b n l : ℝ) : EReal) := by
  pointwise [val_main_v0]
  have e : (⟨n / 64, by omega⟩ : Fin 64) = (⟨n / 64 % 64, Nat.mod_lt _ (by decide)⟩ : Fin 64) := Fin.ext (by show (n : ℕ) / 64 = n / 64 % 64; omega)
  exact (congrArg (fun h : Fin 64 => x (ix4 b h (⟨n % 64, Nat.mod_lt _ (by decide)⟩ : Fin 64) l)) e).trans (adm.real b _ _ l)

/-- The average of an image's points. -/
theorem average (b : Fin 64) (l : Fin 128) : val_main_v7 (F := Ideal) x (ix3 b 0 l) = ((Lorentz.avg (Points.pointsOf x b) l : ℝ) : EReal) := by
  pointwise [val_main_v7, val_main_v6, val_main_v5, val_main_v4, val_main_cst_1, val_main_cst_2]
  simp only [points x β g adm, Consts.count, Scalars.sum_coe]
  rw [Scalars.div_coe (by norm_num), Fin.sum_univ_eq_sum_range (fun n => Points.pointsOf x b n l) 4096]
  rfl

/-- The centroid. -/
theorem centroid (b : Fin 64) (l : Fin 128) : val_main_v21 (F := Ideal) x (ix3 b 0 l) = ((Lorentz.mean (Points.pointsOf x b) l : ℝ) : EReal) := by
  pointwise [val_main_v21, val_main_v20, val_main_v19, val_main_v18, val_main_call0_v1, val_main_call0_v0, val_main_v17, val_main_v16,
    val_main_v15, val_main_v14, val_main_v13, val_main_v12, val_main_v11, val_main_v10, val_main_v9, val_main_v8, val_main_cst_3, val_main_cst_4,
    val_main_cst_5]
  have hi := (adm.good b).inside
  have hc := Lorentz.clamp_pos
  rw [bound, Consts.clamp]
  simp only [average x β g adm, Consts.two, Points.linner_coe]
  rw [← EReal.coe_neg, Scalars.max_coe, max_eq_right hi, Scalars.sqrt_coe (by linarith),
    Scalars.div_coe (Lorentz.root_pos (adm.good b)).ne']
  rfl

/-- Minus the Lorentz product of the centroid and a point; the lower bound does not act. -/
theorem alpha (b : Fin 64) (n : Fin 4096) : val_main_v34 (F := Ideal) x (ix3 b n 0) = ((Lorentz.al (Points.pointsOf x b) n : ℝ) : EReal) := by
  pointwise [val_main_v34, val_main_v33, val_main_v32, val_main_v31, val_main_v30, val_main_v29, val_main_v28, val_main_v27, val_main_v26,
    val_main_v25, val_main_v24, val_main_v23, val_main_v22, val_main_call1_v1, val_main_call1_v0, val_main_cst_6, val_main_cst_7, val_main_cst_8]
  rw [bound, Consts.least]
  simp only [centroid x β g adm, points x β g adm, Consts.two]
  rw [Points.linner_coe (Lorentz.mean (Points.pointsOf x b)) (Points.pointsOf x b n), ← EReal.coe_neg, Scalars.max_coe]
  exact congrArg _ (max_eq_right (adm.away b n n.isLt))

/-- A point less `alpha` times the centroid. -/
theorem offset (b : Fin 64) (n : Fin 4096) (l : Fin 128) : val_main_v38 (F := Ideal) x (ix3 b n l)
    = ((Points.pointsOf x b n l + -Lorentz.al (Points.pointsOf x b) n * Lorentz.mean (Points.pointsOf x b) l : ℝ) : EReal) := by
  pointwise [val_main_v38, val_main_v37, val_main_v36, val_main_v35]
  rw [points x β g adm, alpha x β g adm, centroid x β g adm, ← EReal.coe_mul, ← EReal.coe_sub, sub_eq_add_neg, neg_mul]

/-- The tangent vector at the centroid. -/
theorem logarithm (b : Fin 64) (n : Fin 4096) (l : Fin 128) : val_main_v54 (F := Ideal) x (ix3 b n l)
    = ((Lorentz.ratio (Points.pointsOf x b) n
        * (Points.pointsOf x b n l + -Lorentz.al (Points.pointsOf x b) n * Lorentz.mean (Points.pointsOf x b) l) : ℝ) : EReal) := by
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_call2_v1, val_main_call2_v0,
    val_main_cst_9, val_main_cst_10, val_main_cst_11]
  have ha := adm.away b n n.isLt
  have hc := Lorentz.clamp_le ha
  have hp := Lorentz.clamp_pos
  rw [bound, Consts.clamp]
  simp only [offset x β g adm, alpha x β g adm, Consts.two]
  rw [Points.linner_coe (fun l => Points.pointsOf x b n l + -Lorentz.al (Points.pointsOf x b) n * Lorentz.mean (Points.pointsOf x b) l)
      (fun l => Points.pointsOf x b n l + -Lorentz.al (Points.pointsOf x b) n * Lorentz.mean (Points.pointsOf x b) l),
    Lorentz.perp_square (adm.good b) n.isLt, Scalars.max_coe, max_eq_right hc, Scalars.sqrt_coe (by linarith),
    Scalars.acosh_coe (Lorentz.one_lt_least.le.trans ha), ← EReal.coe_mul, Scalars.div_coe (Real.sqrt_pos.mpr (by linarith)).ne',
    mul_div_right_comm]
  rfl

/-- The tangent vector carried to the origin. -/
theorem carried (b : Fin 64) (n : Fin 4096) (l : Fin 128) :
    val_main_v67 (F := Ideal) x (ix3 b n l) = ((Lorentz.tangent (Points.pointsOf x b) n l : ℝ) : EReal) := by
  pointwise [val_main_v67, val_main_v66, val_main_v65, val_main_v64, val_main_v63, val_main_v62, val_main_v61, val_main_v60, val_main_v59,
    val_main_v58, val_main_v57, val_main_v56, val_main_v55, val_main_cst_12]
  rw [logarithm x β g adm, logarithm x β g adm, centroid x β g adm, centroid x β g adm, origin, ← EReal.coe_one, ← EReal.coe_add, ← EReal.coe_add]
  rw [← Lorentz.transport (adm.good b) n l]
  by_cases hm : 1 + Lorentz.mean (Points.pointsOf x b) 0 = 0
  · rw [Lorentz.mean_mirror (adm.good b) hm l, EReal.coe_zero, mul_zero, sub_zero, mul_zero, sub_zero]
  · rw [Scalars.div_coe hm, ← EReal.coe_mul, ← EReal.coe_sub]

/-- Its norm is the distance. -/
theorem norm (b : Fin 64) (n : Fin 4096) : val_main_v68 (F := Ideal) x (ix2 b n) = ((Lorentz.dist (Points.pointsOf x b) n : ℝ) : EReal) := by
  pointwise [val_main_v68, val_main_call4_v1, val_main_call4_v0, val_main_call4_cst]
  simp only [carried x β g adm, ← EReal.coe_mul, Scalars.sum_coe]
  rw [Scalars.sqrt_coe (Finset.sum_nonneg fun l _ => mul_self_nonneg _)]
  exact congrArg _ (Lorentz.tangent_norm (adm.good b) n.isLt (adm.away b n n.isLt))

/-- The rescaled vector. -/
theorem rescaled (b : Fin 64) (n : Fin 4096) (l : Fin 128) :
    val_main_v80 (F := Ideal) x g (ix3 b n l) = ((Lorentz.vec (Points.pointsOf x b) (Points.scaleOf g) n l : ℝ) : EReal) := by
  pointwise [val_main_v80, val_main_v79, val_main_v78, val_main_v77, val_main_v76, val_main_v75, val_main_v74, val_main_v73, val_main_v72,
    val_main_v71, val_main_v70, val_main_v69, val_main_cst_13, val_main_cst_14, val_main_cst_15]
  simp only [carried x β g adm, norm x β g adm, Consts.count, Consts.eps, Scalars.sum_coe]
  rw [adm.gamma, Scalars.div_coe (by norm_num), ← EReal.coe_add, Fin.sum_univ_eq_sum_range (fun n => Lorentz.dist (Points.pointsOf x b) n) 4096,
    Scalars.div_coe (Lorentz.denom_pos (adm.away b)).ne', ← EReal.coe_mul]
  rfl

omit adm in
/-- A rescaled vector has nothing in the time lane. -/
theorem vec_time (y : ℕ → Fin 128 → ℝ) (s : ℝ) (n : ℕ) : Lorentz.vec y s n 0 = 0 := by
  rw [Lorentz.vec, Lorentz.tangent, if_pos rfl, zero_mul]

/-- Carrying the rescaled vector from the origin to beta, which is the origin, leaves it. -/
theorem moved (b : Fin 64) (n : Fin 4096) (l : Fin 128) :
    val_main_v104 (F := Ideal) x β g (ix3 b n l) = ((Lorentz.vec (Points.pointsOf x b) (Points.scaleOf g) n l : ℝ) : EReal) := by
  have h : val_main_v96 (F := Ideal) β ix0 = ((1 + 1 : ℝ) : EReal) := by
    pointwise [val_main_v96, val_main_v95, val_main_v94, val_main_cst_18]
    rw [adm.beta, ← EReal.coe_one, ← EReal.coe_add]
    rfl
  pointwise [val_main_v104, val_main_v103, val_main_v102, val_main_v101, val_main_v100, val_main_v99, val_main_v98, val_main_v97, val_main_v93,
    val_main_v92, val_main_v91, val_main_v90, val_main_v89, val_main_v88, val_main_v87, val_main_v86, val_main_v85, val_main_v84, val_main_v83,
    val_main_v82, val_main_v81, val_main_cst_16, val_main_cst_17]
  simp only [rescaled x β g adm, adm.beta, Consts.two, origin]
  rw [Points.linner_coe Lorentz.e0 (Lorentz.vec (Points.pointsOf x b) (Points.scaleOf g) n), Lorentz.linner_e0, vec_time, h, Scalars.div_coe (by norm_num),
    ← EReal.coe_add, ← EReal.coe_mul, ← EReal.coe_add, neg_zero, zero_div, zero_mul, add_zero]

/-- The length of that vector, bounded below. -/
theorem length (b : Fin 64) (n : Fin 4096) :
    val_main_v115 (F := Ideal) x β g (ix3 b n 0) = ((Lorentz.nu (Points.pointsOf x b) (Points.scaleOf g) n : ℝ) : EReal) := by
  pointwise [val_main_v115, val_main_v114, val_main_v113, val_main_v112, val_main_v111, val_main_v110, val_main_v109, val_main_v108, val_main_v107,
    val_main_v106, val_main_v105, val_main_call5_v1, val_main_call5_v0, val_main_cst_19, val_main_cst_20, val_main_cst_21]
  rw [bound, Consts.clamp]
  simp only [moved x β g adm, Consts.two]
  rw [Points.linner_coe (Lorentz.vec (Points.pointsOf x b) (Points.scaleOf g) n) (Lorentz.vec (Points.pointsOf x b) (Points.scaleOf g) n),
    Lorentz.vec_square, Scalars.max_coe, max_comm, Scalars.sqrt_coe (Lorentz.clamp_pos.le.trans (le_max_right _ _))]
  rfl

/-- The point it leads to. -/
theorem mapped (b : Fin 64) (n : Fin 4096) (l : Fin 128) :
    val_main_v126 (F := Ideal) x β g (ix3 b n l) = ((Lorentz.out (Points.pointsOf x b) (Points.scaleOf g) n l : ℝ) : EReal) := by
  pointwise [val_main_v126, val_main_v125, val_main_v124, val_main_v123, val_main_v122, val_main_v121, val_main_v120, val_main_v119, val_main_v118,
    val_main_v117, val_main_v116]
  rw [length x β g adm, moved x β g adm, adm.beta, Ideal.cosh_coe, Ideal.sinh_coe, ← EReal.coe_mul, ← EReal.coe_mul,
    Scalars.div_coe (Lorentz.nu_pos _ n).ne', ← EReal.coe_add]
  exact congrArg _ (Lorentz.expmap _ n l)

/-- The reference's result. -/
theorem result : val_main_v127 (F := Ideal) x β g = fun i : S64x64x64x128.Idx => Points.result x g (i 0) (i 1) (i 2) (i 3) := by
  funext i
  rw [eq_ix4 i]
  show _ = Points.result x g (i 0) (i 1) (i 2) (i 3)
  generalize (i 0 : Fin 64) = b
  generalize (i 1 : Fin 64) = h
  generalize (i 2 : Fin 64) = w
  generalize (i 3 : Fin 128) = l
  pointwise [val_main_v127]
  refine (mapped x β g adm b _ l).trans ?_
  have e : (h : ℕ) * 64 + w = 64 * h + w := by omega
  exact congrArg (fun n => ((Lorentz.out (Points.pointsOf x b) (Points.scaleOf g) n l : ℝ) : EReal)) e

end Cert.ReferenceIdeal.Values

end
-- ==== Proof.Precondition.lean ====
/- The precondition, read entry by entry, says that the arguments are admissible. -/
module

public import proofs.«01_k».proof.Pre_unit_points_away_from_centroid
public import proofs.«01_k».proof.Proof.Points
public import proofs.«01_k».proof.Proof.Consts
public import Idealize.ShloMosaic.Lib.Pointwise

@[expose] public section

set_option maxRecDepth 16384

noncomputable section

open Idealize.ShloMosaic Idealize.ShloMosaic.TcCoe

namespace Cert.Pre_unit_points_away_from_centroid

open Facts

/-- The shape relations that the precondition's operations need. -/
instance facts : Facts where
  shapeCasts_S64x64x64x128_S64x4096x128 := by decide
  reducesTo_S64x4096x128_S64x4096_d2 := by decide
  h_S_ := by decide
  bcast_S64x4096_S64x4096x1_0_1 := by decide
  slices_S64x4096x128_S64x4096x1_0_0_0 := by decide
  bcast_S_S64x4096x1 := by decide
  reducesTo_S64x4096x128_S64x128_d1 := by decide
  bcast_S64x128_S64x1x128_0_2 := by decide
  bcast_S_S64x1x128 := by decide
  reducesTo_S64x1x128_S64x1_d2 := by decide
  bcast_S64x1_S64x1x1_0_1 := by decide
  slices_S64x1x128_S64x1x1_0_0_0 := by decide
  bcast_S_S64x1x1 := by decide
  bcast_S64x1x1_S64x1x128_0_1_2 := by decide
  bcast_S64x1x128_S64x4096x128_0_1_2 := by decide
  bcast_S64x1x1_S64x4096x1_0_1_2 := by decide
  bcast_S_S128 := by decide
  bcast_S_S1 := by decide

/-- A bit made of a decision is set when the decision holds. -/
theorem of_bit {p : Prop} [Decidable p] (h : BitVec.ofBool (decide p) = 1#1) : p := by
  by_contra hp
  rw [decide_eq_false hp] at h
  exact absurd h (by decide)

/-- An extended real below whose square there is a real bound is real. -/
theorem real_of_square {a : EReal} (h : a * a ≠ ⊤) : a = ((a.toReal : ℝ) : EReal) := by
  induction a with
  | bot => exact absurd EReal.bot_mul_bot h
  | top => exact absurd EReal.top_mul_top h
  | coe r => rfl

/-- A square of an extended real is not negative. -/
theorem square_nonneg (a : EReal) : 0 ≤ a * a := by
  induction a with
  | bot => rw [EReal.bot_mul_bot]; exact le_top
  | top => rw [EReal.top_mul_top]; exact le_top
  | coe r => rw [← EReal.coe_mul, ← EReal.coe_zero]; exact EReal.coe_le_coe_iff.mpr (mul_self_nonneg r)

/-- A sum of squares, less anything, is a real number only when the squared entries are real. -/
theorem real_of_sheet (v : Fin 128 → EReal) (y : EReal) (r : ℝ) (h : ∑ l, v l * v l - y = (r : EReal)) (l : Fin 128) :
    v l = (((v l).toReal : ℝ) : EReal) := by
  refine real_of_square fun ht => ?_
  have hs : ∑ l, v l * v l = ⊤ := by
    refine top_le_iff.mp (ht ▸ Finset.single_le_sum (f := fun l => v l * v l) (fun k _ => square_nonneg (v k)) (Finset.mem_univ l))
  rw [hs] at h
  induction y with
  | bot => exact EReal.coe_ne_top r (h.symm.trans (by rfl))
  | top => exact EReal.coe_ne_bot r (h.symm.trans (by rfl))
  | coe s => exact EReal.coe_ne_top r (h.symm.trans (by rfl))

/-- A number whose magnitude is below infinity is real. -/
theorem real_of_abs {a : EReal} (h : FloatOps.absf (F := Ideal) (φ := .f32) a < (⊤ : EReal)) : a = ((a.toReal : ℝ) : EReal) := by
  induction a with
  | bot => exact absurd h (by decide)
  | top => exact absurd h (by decide)
  | coe r => rfl

variable (x : FVec Ideal S64x64x64x128 .f32) (β : FVec Ideal S128 .f32) (g : FVec Ideal S1 .f32)

/-- Every entry of the batch is real. -/
theorem entries (h : (fn (F := Ideal) x β g).1 = fun _ => 1#1) (b r w : Fin 64) (l : Fin 128) :
    x (ix4 b r w l) = ((EReal.toReal (x (ix4 b r w l)) : ℝ) : EReal) := by
  obtain ⟨n, e⟩ : ∃ n : Fin 4096, (n : ℕ) = 64 * r + w := ⟨⟨64 * r + w, by omega⟩, rfl⟩
  have hn := congrFun h (ix3 b n (0 : Fin 1))
  simp only [fn, fn_part1, fn_part2] at hn
  revert hn
  pointwise
  intro hn
  have hv := of_bit hn
  rw [Consts.negOne] at hv
  have hx := real_of_sheet _ _ _ hv l
  have e1 : (⟨n / 64, by omega⟩ : Fin 64) = r := Fin.ext (by show (n : ℕ) / 64 = r; omega)
  have e2 : (⟨n % 64, by omega⟩ : Fin 64) = w := Fin.ext (by show (n : ℕ) % 64 = w; omega)
  rw [e1, e2] at hx
  exact hx

section Real

variable (hr : ∀ (b h w : Fin 64) (l : Fin 128), x (ix4 b h w l) = ((EReal.toReal (x (ix4 b h w l)) : ℝ) : EReal))

include hr

/-- The batch read by image and point. -/
theorem at_point (b : Fin 64) (n : Fin 4096) (l : Fin 128) (h1 : (n : ℕ) / 64 < 64) (h2 : (n : ℕ) % 64 < 64) :
    x (ix4 b (⟨n / 64, h1⟩ : Fin 64) (⟨n % 64, h2⟩ : Fin 64) l) = ((Points.pointsOf x b n l : ℝ) : EReal) := by
  have e : (⟨n / 64, h1⟩ : Fin 64) = (⟨n / 64 % 64, Nat.mod_lt _ (by decide)⟩ : Fin 64) := Fin.ext (by show (n : ℕ) / 64 = n / 64 % 64; omega)
  exact (congrArg (fun h : Fin 64 => x (ix4 b h (⟨n % 64, Nat.mod_lt _ (by decide)⟩ : Fin 64) l)) e).trans (hr b _ _ l)

/-- The points are on the sheet. -/
theorem sheet (h : (fn (F := Ideal) x β g).1 = fun _ => 1#1) (b : Fin 64) (n : Fin 4096) :
    Lorentz.linner (Points.pointsOf x b n) (Points.pointsOf x b n) = -1 := by
  have hn := congrFun h (ix3 b n (0 : Fin 1))
  simp only [fn, fn_part1, fn_part2] at hn
  revert hn
  pointwise
  intro hn
  have hv := of_bit hn
  simp only [at_point x hr, Consts.two, Consts.negOne] at hv
  rw [Points.linner_coe (Points.pointsOf x b n) (Points.pointsOf x b n)] at hv
  exact EReal.coe_eq_coe_iff.mp hv

/-- No point is within the bound of its image's centroid, as the reference computes the centroid. -/
theorem away (h : (fn (F := Ideal) x β g).2.1 = fun _ => 1#1) (b : Fin 64) (n : Fin 4096) :
    Lorentz.least ≤ -Lorentz.linner (fun l => Lorentz.avg (Points.pointsOf x b) l
        / √(max (-Lorentz.linner (Lorentz.avg (Points.pointsOf x b)) (Lorentz.avg (Points.pointsOf x b))) Lorentz.clamp)) (Points.pointsOf x b n) := by
  have hn := congrFun h (ix3 b n (0 : Fin 1))
  simp only [fn, fn_part1, fn_part2] at hn
  revert hn
  pointwise
  intro hn
  have hv := of_bit hn
  have ha : ∀ l, Ideal.div (((∑ k : Fin 4096, Points.pointsOf x b k l : ℝ)) : EReal) ((4096 : ℝ) : EReal) = ((Lorentz.avg (Points.pointsOf x b) l : ℝ) : EReal) := by
    intro l
    rw [Scalars.div_coe (by norm_num), Fin.sum_univ_eq_sum_range (fun n => Points.pointsOf x b n l) 4096]
    rfl
  have hm : ∀ l, Ideal.div ((Lorentz.avg (Points.pointsOf x b) l : ℝ) : EReal)
      (Ideal.sqrt (max (-((Lorentz.linner (Lorentz.avg (Points.pointsOf x b)) (Lorentz.avg (Points.pointsOf x b)) : ℝ) : EReal)) ((Lorentz.clamp : ℝ) : EReal)))
        = ((Lorentz.avg (Points.pointsOf x b) l
            / √(max (-Lorentz.linner (Lorentz.avg (Points.pointsOf x b)) (Lorentz.avg (Points.pointsOf x b))) Lorentz.clamp) : ℝ) : EReal) := by
    intro l
    have hp : 0 < max (-Lorentz.linner (Lorentz.avg (Points.pointsOf x b)) (Lorentz.avg (Points.pointsOf x b))) Lorentz.clamp :=
      lt_max_of_lt_right Lorentz.clamp_pos
    rw [← EReal.coe_neg, Scalars.max_coe, Scalars.sqrt_coe hp.le, Scalars.div_coe (Real.sqrt_pos.mpr hp).ne']
  simp only [at_point x hr, Consts.two, Consts.count, Consts.clamp, Consts.least, Scalars.sum_coe, ha] at hv
  simp only [Points.linner_coe (Lorentz.avg (Points.pointsOf x b)) (Lorentz.avg (Points.pointsOf x b)), hm] at hv
  rw [Points.linner_coe (fun l => Lorentz.avg (Points.pointsOf x b) l
      / √(max (-Lorentz.linner (Lorentz.avg (Points.pointsOf x b)) (Lorentz.avg (Points.pointsOf x b))) Lorentz.clamp)) (Points.pointsOf x b n),
    ← EReal.coe_neg] at hv
  exact EReal.coe_le_coe_iff.mp hv

end Real

/-- Beta is the origin. -/
theorem beta (h : (fn (F := Ideal) x β g).2.2.1 = fun _ => 1#1) (l : Fin 128) : β (ix1 l) = ((Lorentz.e0 l : ℝ) : EReal) := by
  have hn := congrFun h (ix1 l)
  simp only [fn, fn_part1, fn_part2] at hn
  revert hn
  pointwise
  intro hn
  have hl : ∀ l : Fin 128, IntOp.cmpi CmpIPredicate.eq (BitVec.ofNat 32 (l : ℕ)) 0#32 = if l = 0 then 1#1 else 0#1 := by decide +kernel
  rw [of_bit hn, hl]
  unfold Lorentz.e0
  split <;> rfl

/-- Gamma is real. -/
theorem gamma (h : (fn (F := Ideal) x β g).2.2.2 = fun _ => 1#1) : g (ix1 (0 : Fin 1)) = ((Points.scaleOf g : ℝ) : EReal) := by
  have hn := congrFun h (ix1 (0 : Fin 1))
  simp only [fn, fn_part1, fn_part2] at hn
  revert hn
  pointwise
  intro hn
  have hv := of_bit hn
  rw [Consts.infinity] at hv
  exact real_of_abs hv

/-- What the precondition says. -/
theorem admissible (h1 : (fn (F := Ideal) x β g).1 = fun _ => 1#1) (h2 : (fn (F := Ideal) x β g).2.1 = fun _ => 1#1)
    (h3 : (fn (F := Ideal) x β g).2.2.1 = fun _ => 1#1) (h4 : (fn (F := Ideal) x β g).2.2.2 = fun _ => 1#1) : Points.Admissible x β g := by
  have hr := entries x β g h1
  have raw := away x β g hr h2
  have good : ∀ b, Lorentz.Good (Points.pointsOf x b) := fun b =>
    ⟨fun n hn => sheet x β g hr h1 b ⟨n, hn⟩, Lorentz.inside_of_away fun n hn => raw b ⟨n, hn⟩⟩
  refine ⟨hr, good, fun b n hn => ?_, beta x β g h3, gamma x β g h4⟩
  have h := raw b ⟨n, hn⟩
  rw [max_eq_left (good b).inside] at h
  exact h

end Cert.Pre_unit_points_away_from_centroid

end
-- ==== Proof.lean ====
/- The certificate: the kernel and the reference leave their arguments alone, the ideal kernel is the printed one with
   nothing rewritten, and at every admissible input the two end with the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.ReferenceReal
public import proofs.«01_k».proof.Proof.Precondition
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The printed kernel runs, its arguments and its counters end as they were. -/
theorem kernel_frame : Cert.quiescent_Kernel := fun m ρ _ => Cert.Kernel.Gen.frame m ρ

/-- So does the ideal kernel. -/
theorem ideal_frame : Cert.quiescent_KernelIdeal := fun m ρ _ => Cert.KernelIdeal.Gen.frame m ρ

/-- The same under the precondition. -/
theorem ideal_frame_pre : Cert.quiescent_KernelIdeal_pre_unit_points_away_from_centroid := fun m ρ _ => Cert.KernelIdeal.Gen.frame m ρ

/-- The ideal reference runs, its arguments end as they were, and it has no counter. -/
theorem reference_frame : Cert.quiescent_ReferenceIdeal := fun m ρ _ =>
  (θ_run Cert.ReferenceIdeal.defs _ _).mono (fun r ends => ⟨fun c => (ends c).2, sem_eq_zero_of_no_sems (by decide) r.2⟩)
    (Cert.ReferenceIdeal.Value.run m ρ)

/-- The same under the precondition. -/
theorem reference_frame_pre : Cert.quiescent_ReferenceIdeal_pre_unit_points_away_from_centroid := fun m ρ _ => reference_frame m ρ trivial

/-- At every admissible input the ideal kernel and the ideal reference end with the same array: the layer's points. -/
theorem same_result : Cert.algebraic_KernelIdeal_ReferenceIdeal_pre_unit_points_away_from_centroid := by
  intro m g m' g' hpre hagree
  have adm : ∀ c : Dev Cert.KernelIdeal.nD, Points.Admissible (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) := fun c =>
    Cert.Pre_unit_points_away_from_centroid.admissible _ _ _ (hpre c).1 (hpre c).2.1 (hpre c).2.2.1 (hpre c).2.2.2
  refine ⟨_, Cert.KernelIdeal.Block.run m g adm, (θ_run Cert.ReferenceIdeal.defs _ _).mono (fun r h c => ⟨?_, (h c).2⟩) (Cert.ReferenceIdeal.Value.run m' g')⟩
  refine ((h c).1.trans (Cert.ReferenceIdeal.Read.val_main_v127_eq _)).trans ?_
  have e0 := (hagree c).1
  have e1 := (hagree c).2.1
  have e2 := (hagree c).2.2
  refine Eq.trans ?_ (Cert.ReferenceIdeal.Values.result _ _ _ (adm c))
  rw [← e0, ← e1, ← e2]

/-- The whole certificate: the four instances of facts, the frames, nothing rewritten, and the equality of the results. -/
theorem claim : Cert.Claim :=
  ⟨Cert.Kernel.Gen.facts, Cert.KernelIdeal.Gen.facts, Cert.ReferenceIdeal.Gen.facts, Cert.Pre_unit_points_away_from_centroid.facts,
    kernel_frame, ideal_frame, ideal_frame_pre, reference_frame, reference_frame_pre, trivial, same_result⟩

end Cert.Proof

end
